-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S128x17x8192 : Shape := ⟨3, ![128, 17, 8192]⟩
abbrev S128x17 : Shape := ⟨2, ![128, 17]⟩
abbrev S32x17x5 : Shape := ⟨3, ![32, 17, 5]⟩
abbrev S32 : Shape := ⟨1, ![32]⟩
abbrev S64x32x5 : Shape := ⟨3, ![64, 32, 5]⟩
abbrev S64 : Shape := ⟨1, ![64]⟩
abbrev S64x16 : Shape := ⟨2, ![64, 16]⟩
abbrev S16 : Shape := ⟨1, ![16]⟩
abbrev S34x34 : Shape := ⟨2, ![34, 34]⟩
abbrev S34 : Shape := ⟨1, ![34]⟩
abbrev S2x50 : Shape := ⟨2, ![2, 50]⟩
abbrev S2 : Shape := ⟨1, ![2]⟩
abbrev S_ : Shape := ⟨0, ![]⟩

class Facts : Prop where
  bcast_S_S128x17x8192 : S_.BroadcastsInDim S128x17x8192 (![] : Fin 0 → Fin S128x17x8192.rank)
  bcast_S_S32x17x5 : S_.BroadcastsInDim S32x17x5 (![] : Fin 0 → Fin S32x17x5.rank)
  bcast_S_S32 : S_.BroadcastsInDim S32 (![] : Fin 0 → Fin S32.rank)
  bcast_S_S64x32x5 : S_.BroadcastsInDim S64x32x5 (![] : Fin 0 → Fin S64x32x5.rank)
  bcast_S_S64 : S_.BroadcastsInDim S64 (![] : Fin 0 → Fin S64.rank)
  bcast_S_S64x16 : S_.BroadcastsInDim S64x16 (![] : Fin 0 → Fin S64x16.rank)
  bcast_S_S16 : S_.BroadcastsInDim S16 (![] : Fin 0 → Fin S16.rank)

variable [Facts]

def fn_part2 {F : FTy → Type} [FloatOps F] (main_arg14 : FVec F S64 .f32) (main_arg15 : FVec F S64x16 .f32) (main_arg16 : FVec F S16 .f32) (main_arg17 : FVec F S16 .f32) (main_v2 : IVec S128x17x8192 1) (main_v5 : IVec S32x17x5 1) (main_v8 : IVec S32 1) (main_v11 : IVec S32 1) (main_v14 : IVec S32 1) (main_v17 : IVec S32 1) (main_v21 : IVec S32 1) (main_v24 : IVec S64x32x5 1) (main_v27 : IVec S64 1) (main_v30 : IVec S64 1) (main_v33 : IVec S64 1) (main_v34 : FVec F S64 .f32) (main_cst_11 : FVec F S_ .f32) : IVec S128x17x8192 1 × IVec S32x17x5 1 × IVec S32 1 × IVec S32 1 × IVec S32 1 × IVec S32 1 × IVec S32 1 × IVec S64x32x5 1 × IVec S64 1 × IVec S64 1 × IVec S64 1 × IVec S64 1 × IVec S64 1 × IVec S64x16 1 × IVec S16 1 × IVec S16 1 :=
  let main_v35 : FVec F S64 .f32 := broadcastInDim S64 ![] bcast_S_S64 main_cst_11
  let main_v36 : IVec S64 1 := cmpf .olt main_v34 main_v35
  let main_cst_12 : FVec F S_ .f32 := constant S_ .f32 0x3727C5AC#32
  let main_v37 : FVec F S64 .f32 := broadcastInDim S64 ![] bcast_S_S64 main_cst_12
  let main_v38 : FVec F S64 .f32 := addf main_arg14 main_v37
  let main_cst_13 : FVec F S_ .f32 := constant S_ .f32 0x00000000#32
  let main_v39 : FVec F S64 .f32 := broadcastInDim S64 ![] bcast_S_S64 main_cst_13
  let main_v40 : IVec S64 1 := cmpf .ogt main_v38 main_v39
  let main_v41 : FVec F S64x16 .f32 := Host.absf main_arg15
  let main_cst_14 : FVec F S_ .f32 := constant S_ .f32 0x7F800000#32
  let main_v42 : FVec F S64x16 .f32 := broadcastInDim S64x16 ![] bcast_S_S64x16 main_cst_14
  let main_v43 : IVec S64x16 1 := cmpf .olt main_v41 main_v42
  let main_v44 : FVec F S16 .f32 := Host.absf main_arg16
  let main_cst_15 : FVec F S_ .f32 := constant S_ .f32 0x7F800000#32
  let main_v45 : FVec F S16 .f32 := broadcastInDim S16 ![] bcast_S_S16 main_cst_15
  let main_v46 : IVec S16 1 := cmpf .olt main_v44 main_v45
  let main_v47 : FVec F S16 .f32 := Host.absf main_arg17
  let main_cst_16 : FVec F S_ .f32 := constant S_ .f32 0x7F800000#32
  let main_v48 : FVec F S16 .f32 := broadcastInDim S16 ![] bcast_S_S16 main_cst_16
  let main_v49 : IVec S16 1 := cmpf .olt main_v47 main_v48
  (main_v2, main_v5, main_v8, main_v11, main_v14, main_v17, main_v21, main_v24, main_v27, main_v30, main_v33, main_v36, main_v40, main_v43, main_v46, main_v49)

def fn_part1 {F : FTy → Type} [FloatOps F] (main_arg8 : FVec F S32 .f32) (main_arg9 : FVec F S64x32x5 .f32) (main_arg10 : FVec F S64 .f32) (main_arg11 : FVec F S64 .f32) (main_arg12 : FVec F S64 .f32) (main_arg13 : FVec F S64 .f32) (main_arg14 : FVec F S64 .f32) (main_arg15 : FVec F S64x16 .f32) (main_arg16 : FVec F S16 .f32) (main_arg17 : FVec F S16 .f32) (main_v2 : IVec S128x17x8192 1) (main_v5 : IVec S32x17x5 1) (main_v8 : IVec S32 1) (main_v11 : IVec S32 1) (main_v14 : IVec S32 1) (main_v17 : IVec S32 1) : IVec S128x17x8192 1 × IVec S32x17x5 1 × IVec S32 1 × IVec S32 1 × IVec S32 1 × IVec S32 1 × IVec S32 1 × IVec S64x32x5 1 × IVec S64 1 × IVec S64 1 × IVec S64 1 × IVec S64 1 × IVec S64 1 × IVec S64x16 1 × IVec S16 1 × IVec S16 1 :=
  let main_cst_5 : FVec F S_ .f32 := constant S_ .f32 0x3727C5AC#32
  let main_v18 : FVec F S32 .f32 := broadcastInDim S32 ![] bcast_S_S32 main_cst_5
  let main_v19 : FVec F S32 .f32 := addf main_arg8 main_v18
  let main_cst_6 : FVec F S_ .f32 := constant S_ .f32 0x00000000#32
  let main_v20 : FVec F S32 .f32 := broadcastInDim S32 ![] bcast_S_S32 main_cst_6
  let main_v21 : IVec S32 1 := cmpf .ogt main_v19 main_v20
  let main_v22 : FVec F S64x32x5 .f32 := Host.absf main_arg9
  let main_cst_7 : FVec F S_ .f32 := constant S_ .f32 0x7F800000#32
  let main_v23 : FVec F S64x32x5 .f32 := broadcastInDim S64x32x5 ![] bcast_S_S64x32x5 main_cst_7
  let main_v24 : IVec S64x32x5 1 := cmpf .olt main_v22 main_v23
  let main_v25 : FVec F S64 .f32 := Host.absf main_arg10
  let main_cst_8 : FVec F S_ .f32 := constant S_ .f32 0x7F800000#32
  let main_v26 : FVec F S64 .f32 := broadcastInDim S64 ![] bcast_S_S64 main_cst_8
  let main_v27 : IVec S64 1 := cmpf .olt main_v25 main_v26
  let main_v28 : FVec F S64 .f32 := Host.absf main_arg11
  let main_cst_9 : FVec F S_ .f32 := constant S_ .f32 0x7F800000#32
  let main_v29 : FVec F S64 .f32 := broadcastInDim S64 ![] bcast_S_S64 main_cst_9
  let main_v30 : IVec S64 1 := cmpf .olt main_v28 main_v29
  let main_v31 : FVec F S64 .f32 := Host.absf main_arg12
  let main_cst_10 : FVec F S_ .f32 := constant S_ .f32 0x7F800000#32
  let main_v32 : FVec F S64 .f32 := broadcastInDim S64 ![] bcast_S_S64 main_cst_10
  let main_v33 : IVec S64 1 := cmpf .olt main_v31 main_v32
  let main_v34 : FVec F S64 .f32 := Host.absf main_arg13
  let main_cst_11 : FVec F S_ .f32 := constant S_ .f32 0x7F800000#32
  fn_part2 (F := F) main_arg14 main_arg15 main_arg16 main_arg17 main_v2 main_v5 main_v8 main_v11 main_v14 main_v17 main_v21 main_v24 main_v27 main_v30 main_v33 main_v34 main_cst_11

def fn {F : FTy → Type} [FloatOps F] (main_arg0 : FVec F S128x17x8192 .f32) (main_arg1 : FVec F S128x17 .f32) (main_arg2 : FVec F S128x17 .f32) (main_arg3 : FVec F S32x17x5 .f32) (main_arg4 : FVec F S32 .f32) (main_arg5 : FVec F S32 .f32) (main_arg6 : FVec F S32 .f32) (main_arg7 : FVec F S32 .f32) (main_arg8 : FVec F S32 .f32) (main_arg9 : FVec F S64x32x5 .f32) (main_arg10 : FVec F S64 .f32) (main_arg11 : FVec F S64 .f32) (main_arg12 : FVec F S64 .f32) (main_arg13 : FVec F S64 .f32) (main_arg14 : FVec F S64 .f32) (main_arg15 : FVec F S64x16 .f32) (main_arg16 : FVec F S16 .f32) (main_arg17 : FVec F S16 .f32) (main_arg18 : FVec F S16 .f32) (main_arg19 : FVec F S34x34 .f32) (main_arg20 : FVec F S34 .f32) (main_arg21 : FVec F S2x50 .f32) (main_arg22 : FVec F S2 .f32) : IVec S128x17x8192 1 × IVec S32x17x5 1 × IVec S32 1 × IVec S32 1 × IVec S32 1 × IVec S32 1 × IVec S32 1 × IVec S64x32x5 1 × IVec S64 1 × IVec S64 1 × IVec S64 1 × IVec S64 1 × IVec S64 1 × IVec S64x16 1 × IVec S16 1 × IVec S16 1 :=
  let main_v0 : FVec F S128x17x8192 .f32 := Host.absf main_arg0
  let main_cst : FVec F S_ .f32 := constant S_ .f32 0x7F800000#32
  let main_v1 : FVec F S128x17x8192 .f32 := broadcastInDim S128x17x8192 ![] bcast_S_S128x17x8192 main_cst
  let main_v2 : IVec S128x17x8192 1 := cmpf .olt main_v0 main_v1
  let main_v3 : FVec F S32x17x5 .f32 := Host.absf main_arg3
  let main_cst_0 : FVec F S_ .f32 := constant S_ .f32 0x7F800000#32
  let main_v4 : FVec F S32x17x5 .f32 := broadcastInDim S32x17x5 ![] bcast_S_S32x17x5 main_cst_0
  let main_v5 : IVec S32x17x5 1 := cmpf .olt main_v3 main_v4
  let main_v6 : FVec F S32 .f32 := Host.absf main_arg4
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S32 .f32 := Host.absf main_arg6
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S32 .f32 := Host.absf main_arg7
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  fn_part1 (F := F) main_arg8 main_arg9 main_arg10 main_arg11 main_arg12 main_arg13 main_arg14 main_arg15 main_arg16 main_arg17 main_v2 main_v5 main_v8 main_v11 main_v14 main_v17
-- ==== Kernel.lean ====
abbrev S128x17x8192 : Shape := ⟨3, ![128, 17, 8192]⟩
abbrev S128x17 : Shape := ⟨2, ![128, 17]⟩
abbrev S32x17x5 : Shape := ⟨3, ![32, 17, 5]⟩
abbrev S32 : Shape := ⟨1, ![32]⟩
abbrev S64x32x5 : Shape := ⟨3, ![64, 32, 5]⟩
abbrev S64 : Shape := ⟨1, ![64]⟩
abbrev S64x16 : Shape := ⟨2, ![64, 16]⟩
abbrev S16 : Shape := ⟨1, ![16]⟩
abbrev S34x34 : Shape := ⟨2, ![34, 34]⟩
abbrev S34 : Shape := ⟨1, ![34]⟩
abbrev S2x50 : Shape := ⟨2, ![2, 50]⟩
abbrev S2 : Shape := ⟨1, ![2]⟩
abbrev S128x17x2048x4 : Shape := ⟨4, ![128, 17, 2048, 4]⟩
abbrev S128x4x17x2048 : Shape := ⟨4, ![128, 4, 17, 2048]⟩
abbrev S_ : Shape := ⟨0, ![]⟩
abbrev S32x5x17 : Shape := ⟨3, ![32, 5, 17]⟩
abbrev S32x85 : Shape := ⟨2, ![32, 85]⟩
abbrev S32x1 : Shape := ⟨2, ![32, 1]⟩
abbrev S32x86 : Shape := ⟨2, ![32, 86]⟩
abbrev S64x5x32 : Shape := ⟨3, ![64, 5, 32]⟩
abbrev S64x160 : Shape := ⟨2, ![64, 160]⟩
abbrev S64x1 : Shape := ⟨2, ![64, 1]⟩
abbrev S64x161 : Shape := ⟨2, ![64, 161]⟩
abbrev S16x64 : Shape := ⟨2, ![16, 64]⟩
abbrev S1x64 : Shape := ⟨2, ![1, 64]⟩
abbrev S18x64 : Shape := ⟨2, ![18, 64]⟩
abbrev S128x34 : Shape := ⟨2, ![128, 34]⟩
abbrev S128x1x34 : Shape := ⟨3, ![128, 1, 34]⟩
abbrev S1x16 : Shape := ⟨2, ![1, 16]⟩
abbrev S1x34 : Shape := ⟨2, ![1, 34]⟩
abbrev S50x2 : Shape := ⟨2, ![50, 2]⟩
abbrev S1x2 : Shape := ⟨2, ![1, 2]⟩
abbrev S128x1x2 : Shape := ⟨3, ![128, 1, 2]⟩
abbrev S128x2 : Shape := ⟨2, ![128, 2]⟩
abbrev S1x4x17x2048 : Shape := ⟨4, ![1, 4, 17, 2048]⟩
abbrev S1x1x34 : Shape := ⟨3, ![1, 1, 34]⟩
abbrev S1x1x2 : Shape := ⟨3, ![1, 1, 2]⟩
abbrev S1x2048 : Shape := ⟨2, ![1, 2048]⟩
abbrev S1x1x17x2048 : Shape := ⟨4, ![1, 1, 17, 2048]⟩
abbrev S17x2048 : Shape := ⟨2, ![17, 2048]⟩
abbrev S17x1 : Shape := ⟨2, ![17, 1]⟩
abbrev S17x2047 : Shape := ⟨2, ![17, 2047]⟩
abbrev S86x2048 : Shape := ⟨2, ![86, 2048]⟩
abbrev S32x2048 : Shape := ⟨2, ![32, 2048]⟩
abbrev S32x2047 : Shape := ⟨2, ![32, 2047]⟩
abbrev S161x2048 : Shape := ⟨2, ![161, 2048]⟩
abbrev S64x2048 : Shape := ⟨2, ![64, 2048]⟩
abbrev S18x2048 : Shape := ⟨2, ![18, 2048]⟩
abbrev S1x2046 : Shape := ⟨2, ![1, 2046]⟩
abbrev S1x1 : Shape := ⟨2, ![1, 1]⟩
abbrev S1x2047 : Shape := ⟨2, ![1, 2047]⟩
abbrev S1x18 : Shape := ⟨2, ![1, 18]⟩
abbrev S1x50 : Shape := ⟨2, ![1, 50]⟩

abbrev nBuf : Space → Nat
  | .hbm => 74
  | .vmem => 14
  | .smem => 0
  | _ => 0

abbrev bufTy : (tb : Table) → Fin (tcTables nBuf tb) → BufTy
  | .hbm, ⟨0, _⟩ => ⟨S128x17x8192, .f32⟩
  | .hbm, ⟨1, _⟩ => ⟨S128x17, .f32⟩
  | .hbm, ⟨2, _⟩ => ⟨S128x17, .f32⟩
  | .hbm, ⟨3, _⟩ => ⟨S32x17x5, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S64x32x5, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S34x34, .f32⟩
  | .hbm, ⟨20, _⟩ => ⟨S34, .f32⟩
  | .hbm, ⟨21, _⟩ => ⟨S2x50, .f32⟩
  | .hbm, ⟨22, _⟩ => ⟨S2, .f32⟩
  | .hbm, ⟨23, _⟩ => ⟨S128x17x2048x4, .f32⟩
  | .hbm, ⟨24, _⟩ => ⟨S128x4x17x2048, .f32⟩
  | .hbm, ⟨25, _⟩ => ⟨S128x4x17x2048, .bf16⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S32x5x17, .f32⟩
  | .hbm, ⟨35, _⟩ => ⟨S32x85, .f32⟩
  | .hbm, ⟨36, _⟩ => ⟨S32x1, .f32⟩
  | .hbm, ⟨37, _⟩ => ⟨S32x85, .f32⟩
  | .hbm, ⟨38, _⟩ => ⟨S32x85, .f32⟩
  | .hbm, ⟨39, _⟩ => ⟨S32x1, .f32⟩
  | .hbm, ⟨40, _⟩ => ⟨S32x86, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64x5x32, .f32⟩
  | .hbm, ⟨50, _⟩ => ⟨S64x160, .f32⟩
  | .hbm, ⟨51, _⟩ => ⟨S64x1, .f32⟩
  | .hbm, ⟨52, _⟩ => ⟨S64x160, .f32⟩
  | .hbm, ⟨53, _⟩ => ⟨S64x160, .f32⟩
  | .hbm, ⟨54, _⟩ => ⟨S64x1, .f32⟩
  | .hbm, ⟨55, _⟩ => ⟨S64x161, .f32⟩
  | .hbm, ⟨56, _⟩ => ⟨S16x64, .f32⟩
  | .hbm, ⟨57, _⟩ => ⟨S64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S18x64, .f32⟩
  | .hbm, ⟨62, _⟩ => ⟨S128x34, .f32⟩
  | .hbm, ⟨63, _⟩ => ⟨S128x1x34, .f32⟩
  | .hbm, ⟨64, _⟩ => ⟨S32x86, .bf16⟩
  | .hbm, ⟨65, _⟩ => ⟨S64x161, .bf16⟩
  | .hbm, ⟨66, _⟩ => ⟨S18x64, .bf16⟩
  | .hbm, ⟨67, _⟩ => ⟨S1x16, .f32⟩
  | .hbm, ⟨68, _⟩ => ⟨S34x34, .f32⟩
  | .hbm, ⟨69, _⟩ => ⟨S1x34, .f32⟩
  | .hbm, ⟨70, _⟩ => ⟨S50x2, .f32⟩
  | .hbm, ⟨71, _⟩ => ⟨S1x2, .f32⟩
  | .hbm, ⟨72, _⟩ => ⟨S128x1x2, .f32⟩
  | .hbm, ⟨73, _⟩ => ⟨S128x2, .f32⟩
  | .local _ .vmem, ⟨0, _⟩ => ⟨S1x4x17x2048, .bf16⟩
  | .local _ .vmem, ⟨1, _⟩ => ⟨S1x4x17x2048, .bf16⟩
  | .local _ .vmem, ⟨2, _⟩ => ⟨S1x1x34, .f32⟩
  | .local _ .vmem, ⟨3, _⟩ => ⟨S1x1x34, .f32⟩
  | .local _ .vmem, ⟨4, _⟩ => ⟨S32x86, .bf16⟩
  | .local _ .vmem, ⟨5, _⟩ => ⟨S64x161, .bf16⟩
  | .local _ .vmem, ⟨6, _⟩ => ⟨S18x64, .bf16⟩
  | .local _ .vmem, ⟨7, _⟩ => ⟨S1x16, .f32⟩
  | .local _ .vmem, ⟨8, _⟩ => ⟨S34x34, .f32⟩
  | .local _ .vmem, ⟨9, _⟩ => ⟨S1x34, .f32⟩
  | .local _ .vmem, ⟨10, _⟩ => ⟨S50x2, .f32⟩
  | .local _ .vmem, ⟨11, _⟩ => ⟨S1x2, .f32⟩
  | .local _ .vmem, ⟨12, _⟩ => ⟨S1x1x2, .f32⟩
  | .local _ .vmem, ⟨13, _⟩ => ⟨S1x1x2, .f32⟩
  | _, _ => ⟨S128x17x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_cst : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_cst_0 : Ref sig .tc := ⟨.hbm, 41, rfl⟩
abbrev main_call0_v17 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_v0 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x17x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x34 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x86 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x161 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S34x34 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x34 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S128x17x8192 : Shape := ⟨3, ![128, 17, 8192]⟩
abbrev S128x17 : Shape := ⟨2, ![128, 17]⟩
abbrev S32x17x5 : Shape := ⟨3, ![32, 17, 5]⟩
abbrev S32 : Shape := ⟨1, ![32]⟩
abbrev S64x32x5 : Shape := ⟨3, ![64, 32, 5]⟩
abbrev S64 : Shape := ⟨1, ![64]⟩
abbrev S64x16 : Shape := ⟨2, ![64, 16]⟩
abbrev S16 : Shape := ⟨1, ![16]⟩
abbrev S34x34 : Shape := ⟨2, ![34, 34]⟩
abbrev S34 : Shape := ⟨1, ![34]⟩
abbrev S2x50 : Shape := ⟨2, ![2, 50]⟩
abbrev S2 : Shape := ⟨1, ![2]⟩
abbrev S_ : Shape := ⟨0, ![]⟩
abbrev S128x17x8196 : Shape := ⟨3, ![128, 17, 8196]⟩
abbrev S32x17x1 : Shape := ⟨3, ![32, 17, 1]⟩
abbrev S32x17 : Shape := ⟨2, ![32, 17]⟩
abbrev S128x8192x32 : Shape := ⟨3, ![128, 8192, 32]⟩
abbrev S128x32x8192 : Shape := ⟨3, ![128, 32, 8192]⟩
abbrev S1x32x1 : Shape := ⟨3, ![1, 32, 1]⟩
abbrev S128x32x4096x2 : Shape := ⟨4, ![128, 32, 4096, 2]⟩
abbrev S128x32x4096 : Shape := ⟨3, ![128, 32, 4096]⟩
abbrev S128x32x4100 : Shape := ⟨3, ![128, 32, 4100]⟩
abbrev S64x32x1 : Shape := ⟨3, ![64, 32, 1]⟩
abbrev S64x32 : Shape := ⟨2, ![64, 32]⟩
abbrev S128x4096x64 : Shape := ⟨3, ![128, 4096, 64]⟩
abbrev S128x64x4096 : Shape := ⟨3, ![128, 64, 4096]⟩
abbrev S1x64x1 : Shape := ⟨3, ![1, 64, 1]⟩
abbrev S128x64x2048x2 : Shape := ⟨4, ![128, 64, 2048, 2]⟩
abbrev S128x64x2048 : Shape := ⟨3, ![128, 64, 2048]⟩
abbrev S128x2048x64 : Shape := ⟨3, ![128, 2048, 64]⟩
abbrev S128x2048x16 : Shape := ⟨3, ![128, 2048, 16]⟩
abbrev S128x2048 : Shape := ⟨2, ![128, 2048]⟩
abbrev S128x2052x16 : Shape := ⟨3, ![128, 2052, 16]⟩
abbrev S128x2052 : Shape := ⟨2, ![128, 2052]⟩
abbrev S128x2048x1x16 : Shape := ⟨4, ![128, 2048, 1, 16]⟩
abbrev S128x2048x5x16 : Shape := ⟨4, ![128, 2048, 5, 16]⟩
abbrev S128x2048x1 : Shape := ⟨3, ![128, 2048, 1]⟩
abbrev S128x2048x5 : Shape := ⟨3, ![128, 2048, 5]⟩
abbrev S2048 : Shape := ⟨1, ![2048]⟩
abbrev S2048x1 : Shape := ⟨2, ![2048, 1]⟩
abbrev S5 : Shape := ⟨1, ![5]⟩
abbrev S1x5 : Shape := ⟨2, ![1, 5]⟩
abbrev S2048x5 : Shape := ⟨2, ![2048, 5]⟩
abbrev S1x2048x5 : Shape := ⟨3, ![1, 2048, 5]⟩
abbrev S1x1x16 : Shape := ⟨3, ![1, 1, 16]⟩
abbrev S128x16 : Shape := ⟨2, ![128, 16]⟩
abbrev S128x34 : Shape := ⟨2, ![128, 34]⟩
abbrev S1x34 : Shape := ⟨2, ![1, 34]⟩
abbrev S128x50 : Shape := ⟨2, ![128, 50]⟩
abbrev S50x2 : Shape := ⟨2, ![50, 2]⟩
abbrev S128x2 : Shape := ⟨2, ![128, 2]⟩
abbrev S1x2 : Shape := ⟨2, ![1, 2]⟩

abbrev nBuf : Space → Nat
  | .hbm => 240
  | .vmem => 0
  | .smem => 0
  | _ => 0

abbrev hbmTy0_0 (i : Nat) : BufTy := match i % 128 with
  | 0 => ⟨S128x17x8192, .f32⟩
  | 1 => ⟨S128x17, .f32⟩
  | 2 => ⟨S128x17, .f32⟩
  | 3 => ⟨S32x17x5, .f32⟩
  | 4 => ⟨S32, .f32⟩
  | 5 => ⟨S32, .f32⟩
  | 6 => ⟨S32, .f32⟩
  | 7 => ⟨S32, .f32⟩
  | 8 => ⟨S32, .f32⟩
  | 9 => ⟨S64x32x5, .f32⟩
  | 10 => ⟨S64, .f32⟩
  | 11 => ⟨S64, .f32⟩
  | 12 => ⟨S64, .f32⟩
  | 13 => ⟨S64, .f32⟩
  | 14 => ⟨S64, .f32⟩
  | 15 => ⟨S64x16, .f32⟩
  | 16 => ⟨S16, .f32⟩
  | 17 => ⟨S16, .f32⟩
  | 18 => ⟨S16, .f32⟩
  | 19 => ⟨S34x34, .f32⟩
  | 20 => ⟨S34, .f32⟩
  | 21 => ⟨S2x50, .f32⟩
  | 22 => ⟨S2, .f32⟩
  | 23 => ⟨S_, .i32⟩
  | 24 => ⟨S_, .f32⟩
  | 25 => ⟨S128x17x8196, .f32⟩
  | 26 => ⟨S32x17x1, .f32⟩
  | 27 => ⟨S32x17, .f32⟩
  | 28 => ⟨S128x17x8192, .f32⟩
  | 29 => ⟨S128x8192x32, .f32⟩
  | 30 => ⟨S128x32x8192, .f32⟩
  | 31 => ⟨S32x17x1, .f32⟩
  | 32 => ⟨S32x17, .f32⟩
  | 33 => ⟨S128x17x8192, .f32⟩
  | 34 => ⟨S128x8192x32, .f32⟩
  | 35 => ⟨S128x32x8192, .f32⟩
  | 36 => ⟨S128x32x8192, .f32⟩
  | 37 => ⟨S32x17x1, .f32⟩
  | 38 => ⟨S32x17, .f32⟩
  | 39 => ⟨S128x17x8192, .f32⟩
  | 40 => ⟨S128x8192x32, .f32⟩
  | 41 => ⟨S128x32x8192, .f32⟩
  | 42 => ⟨S128x32x8192, .f32⟩
  | 43 => ⟨S32x17x1, .f32⟩
  | 44 => ⟨S32x17, .f32⟩
  | 45 => ⟨S128x17x8192, .f32⟩
  | 46 => ⟨S128x8192x32, .f32⟩
  | 47 => ⟨S128x32x8192, .f32⟩
  | 48 => ⟨S128x32x8192, .f32⟩
  | 49 => ⟨S32x17x1, .f32⟩
  | 50 => ⟨S32x17, .f32⟩
  | 51 => ⟨S128x17x8192, .f32⟩
  | 52 => ⟨S128x8192x32, .f32⟩
  | 53 => ⟨S128x32x8192, .f32⟩
  | 54 => ⟨S128x32x8192, .f32⟩
  | 55 => ⟨S1x32x1, .f32⟩
  | 56 => ⟨S128x32x8192, .f32⟩
  | 57 => ⟨S128x32x8192, .f32⟩
  | 58 => ⟨S1x32x1, .f32⟩
  | 59 => ⟨S128x32x8192, .f32⟩
  | 60 => ⟨S128x32x8192, .f32⟩
  | 61 => ⟨S_, .f32⟩
  | 62 => ⟨S32, .f32⟩
  | 63 => ⟨S32, .f32⟩
  | 64 => ⟨S32, .f32⟩
  | 65 => ⟨S32, .f32⟩
  | 66 => ⟨S1x32x1, .f32⟩
  | 67 => ⟨S128x32x8192, .f32⟩
  | 68 => ⟨S128x32x8192, .f32⟩
  | 69 => ⟨S1x32x1, .f32⟩
  | 70 => ⟨S128x32x8192, .f32⟩
  | 71 => ⟨S128x32x8192, .f32⟩
  | 72 => ⟨S_, .f32⟩
  | 73 => ⟨S128x32x8192, .f32⟩
  | 74 => ⟨S128x32x8192, .f32⟩
  | 75 => ⟨S128x32x4096x2, .f32⟩
  | 76 => ⟨S_, .f32⟩
  | 77 => ⟨S128x32x4096, .f32⟩
  | 78 => ⟨S_, .i32⟩
  | 79 => ⟨S_, .f32⟩
  | 80 => ⟨S128x32x4100, .f32⟩
  | 81 => ⟨S64x32x1, .f32⟩
  | 82 => ⟨S64x32, .f32⟩
  | 83 => ⟨S128x32x4096, .f32⟩
  | 84 => ⟨S128x4096x64, .f32⟩
  | 85 => ⟨S128x64x4096, .f32⟩
  | 86 => ⟨S64x32x1, .f32⟩
  | 87 => ⟨S64x32, .f32⟩
  | 88 => ⟨S128x32x4096, .f32⟩
  | 89 => ⟨S128x4096x64, .f32⟩
  | 90 => ⟨S128x64x4096, .f32⟩
  | 91 => ⟨S128x64x4096, .f32⟩
  | 92 => ⟨S64x32x1, .f32⟩
  | 93 => ⟨S64x32, .f32⟩
  | 94 => ⟨S128x32x4096, .f32⟩
  | 95 => ⟨S128x4096x64, .f32⟩
  | 96 => ⟨S128x64x4096, .f32⟩
  | 97 => ⟨S128x64x4096, .f32⟩
  | 98 => ⟨S64x32x1, .f32⟩
  | 99 => ⟨S64x32, .f32⟩
  | 100 => ⟨S128x32x4096, .f32⟩
  | 101 => ⟨S128x4096x64, .f32⟩
  | 102 => ⟨S128x64x4096, .f32⟩
  | 103 => ⟨S128x64x4096, .f32⟩
  | 104 => ⟨S64x32x1, .f32⟩
  | 105 => ⟨S64x32, .f32⟩
  | 106 => ⟨S128x32x4096, .f32⟩
  | 107 => ⟨S128x4096x64, .f32⟩
  | 108 => ⟨S128x64x4096, .f32⟩
  | 109 => ⟨S128x64x4096, .f32⟩
  | 110 => ⟨S1x64x1, .f32⟩
  | 111 => ⟨S128x64x4096, .f32⟩
  | 112 => ⟨S128x64x4096, .f32⟩
  | 113 => ⟨S1x64x1, .f32⟩
  | 114 => ⟨S128x64x4096, .f32⟩
  | 115 => ⟨S128x64x4096, .f32⟩
  | 116 => ⟨S_, .f32⟩
  | 117 => ⟨S64, .f32⟩
  | 118 => ⟨S64, .f32⟩
  | 119 => ⟨S64, .f32⟩
  | 120 => ⟨S64, .f32⟩
  | 121 => ⟨S1x64x1, .f32⟩
  | 122 => ⟨S128x64x4096, .f32⟩
  | 123 => ⟨S128x64x4096, .f32⟩
  | 124 => ⟨S1x64x1, .f32⟩
  | 125 => ⟨S128x64x4096, .f32⟩
  | 126 => ⟨S128x64x4096, .f32⟩
  | 127 => ⟨S_, .f32⟩
  | _ => ⟨S128x17x8192, .f32⟩

abbrev hbmTy0_1 (i : Nat) : BufTy := match i % 128 with
  | 0 => ⟨S128x64x4096, .f32⟩
  | 1 => ⟨S128x64x4096, .f32⟩
  | 2 => ⟨S128x64x2048x2, .f32⟩
  | 3 => ⟨S_, .f32⟩
  | 4 => ⟨S128x64x2048, .f32⟩
  | 5 => ⟨S128x2048x64, .f32⟩
  | 6 => ⟨S128x2048x16, .f32⟩
  | 7 => ⟨S128x2048, .f32⟩
  | 8 => ⟨S128x2048, .f32⟩
  | 9 => ⟨S_, .i32⟩
  | 10 => ⟨S_, .f32⟩
  | 11 => ⟨S128x2052x16, .f32⟩
  | 12 => ⟨S_, .i32⟩
  | 13 => ⟨S_, .f32⟩
  | 14 => ⟨S128x2052, .f32⟩
  | 15 => ⟨S128x2048x16, .f32⟩
  | 16 => ⟨S128x2048x16, .f32⟩
  | 17 => ⟨S128x2048x16, .f32⟩
  | 18 => ⟨S128x2048x16, .f32⟩
  | 19 => ⟨S128x2048x16, .f32⟩
  | 20 => ⟨S128x2048x1x16, .f32⟩
  | 21 => ⟨S128x2048x1x16, .f32⟩
  | 22 => ⟨S128x2048x1x16, .f32⟩
  | 23 => ⟨S128x2048x1x16, .f32⟩
  | 24 => ⟨S128x2048x1x16, .f32⟩
  | 25 => ⟨S128x2048x5x16, .f32⟩
  | 26 => ⟨S128x2048, .f32⟩
  | 27 => ⟨S128x2048, .f32⟩
  | 28 => ⟨S128x2048, .f32⟩
  | 29 => ⟨S128x2048, .f32⟩
  | 30 => ⟨S128x2048, .f32⟩
  | 31 => ⟨S128x2048x1, .f32⟩
  | 32 => ⟨S128x2048x1, .f32⟩
  | 33 => ⟨S128x2048x1, .f32⟩
  | 34 => ⟨S128x2048x1, .f32⟩
  | 35 => ⟨S128x2048x1, .f32⟩
  | 36 => ⟨S128x2048x5, .f32⟩
  | 37 => ⟨S128x2048x1, .f32⟩
  | 38 => ⟨S128x2048x5, .f32⟩
  | 39 => ⟨S128x2048x5, .f32⟩
  | 40 => ⟨S_, .f32⟩
  | 41 => ⟨S_, .f32⟩
  | 42 => ⟨S128x2048x5, .f32⟩
  | 43 => ⟨S128x2048x5, .i1⟩
  | 44 => ⟨S_, .f32⟩
  | 45 => ⟨S128x2048x5, .f32⟩
  | 46 => ⟨S128x2048x5, .f32⟩
  | 47 => ⟨S128x2048x5, .f32⟩
  | 48 => ⟨S2048, .i32⟩
  | 49 => ⟨S2048x1, .i32⟩
  | 50 => ⟨S5, .i32⟩
  | 51 => ⟨S1x5, .i32⟩
  | 52 => ⟨S2048x5, .i32⟩
  | 53 => ⟨S2048x5, .i32⟩
  | 54 => ⟨S2048x5, .i32⟩
  | 55 => ⟨S_, .i32⟩
  | 56 => ⟨S2048x5, .i32⟩
  | 57 => ⟨S2048x5, .i32⟩
  | 58 => ⟨S_, .i32⟩
  | 59 => ⟨S2048x5, .i32⟩
  | 60 => ⟨S2048x5, .i1⟩
  | 61 => ⟨S_, .i32⟩
  | 62 => ⟨S2048x5, .i32⟩
  | 63 => ⟨S2048x5, .i1⟩
  | 64 => ⟨S2048x5, .i1⟩
  | 65 => ⟨S1x2048x5, .i1⟩
  | 66 => ⟨S_, .f32⟩
  | 67 => ⟨S_, .f32⟩
  | 68 => ⟨S128x2048x5, .i1⟩
  | 69 => ⟨S128x2048x5, .f32⟩
  | 70 => ⟨S128x2048x5, .f32⟩
  | 71 => ⟨S_, .f32⟩
  | 72 => ⟨S128x2048, .f32⟩
  | 73 => ⟨S_, .f32⟩
  | 74 => ⟨S128x2048, .f32⟩
  | 75 => ⟨S128x2048, .f32⟩
  | 76 => ⟨S128x2048x1, .f32⟩
  | 77 => ⟨S128x2048x5, .f32⟩
  | 78 => ⟨S128x2048x5, .f32⟩
  | 79 => ⟨S128x2048x5, .f32⟩
  | 80 => ⟨S_, .f32⟩
  | 81 => ⟨S128x2048, .f32⟩
  | 82 => ⟨S128x2048x1, .f32⟩
  | 83 => ⟨S128x2048x5, .f32⟩
  | 84 => ⟨S128x2048x5, .f32⟩
  | 85 => ⟨S128x2048x16, .f32⟩
  | 86 => ⟨S1x1x16, .f32⟩
  | 87 => ⟨S128x2048x16, .f32⟩
  | 88 => ⟨S128x2048x16, .f32⟩
  | 89 => ⟨S_, .f32⟩
  | 90 => ⟨S128x16, .f32⟩
  | 91 => ⟨S_, .f32⟩
  | 92 => ⟨S128x16, .f32⟩
  | 93 => ⟨S128x16, .f32⟩
  | 94 => ⟨S128x34, .f32⟩
  | 95 => ⟨S34x34, .f32⟩
  | 96 => ⟨S128x34, .f32⟩
  | 97 => ⟨S1x34, .f32⟩
  | 98 => ⟨S128x34, .f32⟩
  | 99 => ⟨S128x34, .f32⟩
  | 100 => ⟨S_, .f32⟩
  | 101 => ⟨S128x34, .f32⟩
  | 102 => ⟨S128x34, .f32⟩
  | 103 => ⟨S_, .f32⟩
  | 104 => ⟨S128x34, .f32⟩
  | 105 => ⟨S128x34, .f32⟩
  | 106 => ⟨S128x50, .f32⟩
  | 107 => ⟨S50x2, .f32⟩
  | 108 => ⟨S128x2, .f32⟩
  | 109 => ⟨S1x2, .f32⟩
  | 110 => ⟨S128x2, .f32⟩
  | 111 => ⟨S128x2, .f32⟩
  | _ => ⟨S128x17x8192, .f32⟩

abbrev hbmTy (i : Nat) : BufTy := match i / 128 with
  | 0 => hbmTy0_0 i
  | 1 => hbmTy0_1 i
  | _ => ⟨S128x17x8192, .f32⟩

abbrev bufTy : (tb : Table) → Fin (tcTables nBuf tb) → BufTy
  | .hbm, ⟨i, _⟩ => hbmTy i
  | _, _ => ⟨S128x17x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_call0_v0 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_cst_0 : Ref sig .tc := ⟨.hbm, 76, rfl⟩
abbrev main_v48 : Ref sig .tc := ⟨.hbm, 77, rfl⟩
abbrev main_c_1 : Ref sig .tc := ⟨.hbm, 78, rfl⟩
abbrev main_call2_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_2 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call3_cst : Ref sig .tc := ⟨.hbm, 127, rfl⟩
abbrev main_call3_v0 : Ref sig .tc := ⟨.hbm, 128, rfl⟩
abbrev main_v95 : Ref sig .tc := ⟨.hbm, 129, rfl⟩
abbrev main_v96 : Ref sig .tc := ⟨.hbm, 130, rfl⟩
abbrev main_cst_3 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_4 : Ref sig .tc := ⟨.hbm, 137, rfl⟩
abbrev main_call4_v0 : Ref sig .tc := ⟨.hbm, 138, rfl⟩
abbrev main_v102 : Ref sig .tc := ⟨.hbm, 139, rfl⟩
abbrev main_c_5 : Ref sig .tc := ⟨.hbm, 140, rfl⟩
abbrev main_call5_v0 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_6 : Ref sig .tc := ⟨.hbm, 168, rfl⟩
abbrev main_call6_cst : Ref sig .tc := ⟨.hbm, 169, rfl⟩
abbrev main_call6_v0 : Ref sig .tc := ⟨.hbm, 170, rfl⟩
abbrev main_call6_v1 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_7 : Ref sig .tc := ⟨.hbm, 183, rfl⟩
abbrev main_v137 : Ref sig .tc := ⟨.hbm, 184, rfl⟩
abbrev main_v138 : Ref sig .tc := ⟨.hbm, 185, rfl⟩
abbrev main_c_8 : Ref sig .tc := ⟨.hbm, 186, rfl⟩
abbrev main_v139 : Ref sig .tc := ⟨.hbm, 187, rfl⟩
abbrev main_v140 : Ref sig .tc := ⟨.hbm, 188, rfl⟩
abbrev main_c_9 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_10 : Ref sig .tc := ⟨.hbm, 194, rfl⟩
abbrev main_call7_v0 : Ref sig .tc := ⟨.hbm, 195, rfl⟩
abbrev main_call7_v1 : Ref sig .tc := ⟨.hbm, 196, rfl⟩
abbrev main_call7_v2 : Ref sig .tc := ⟨.hbm, 197, rfl⟩
abbrev main_v145 : Ref sig .tc := ⟨.hbm, 198, rfl⟩
abbrev main_cst_11 : Ref sig .tc := ⟨.hbm, 199, rfl⟩
abbrev main_v146 : Ref sig .tc := ⟨.hbm, 200, rfl⟩
abbrev main_cst_12 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_13 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_14 : Ref sig .tc := ⟨.hbm, 217, rfl⟩
abbrev main_v161 : Ref sig .tc := ⟨.hbm, 218, rfl⟩
abbrev main_cst_15 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_call8_cst : Ref sig .tc := ⟨.hbm, 228, rfl⟩
abbrev main_call8_v0 : Ref sig .tc := ⟨.hbm, 229, rfl⟩
abbrev main_v170 : Ref sig .tc := ⟨.hbm, 230, rfl⟩
abbrev main_cst_16 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩

abbrev nD : Nat := 1
abbrev τ : Topo := Topo.v7x

variable {F : FTy → Type} [FloatOps F]
-- ==== Proof.KernelIdealLaunch.lean ====
/-
The launch set-up of the program `KernelIdeal`: the layout facts of its windows and staging buffers, its grid points,
its windows and buffers one by one, and @main as host lines, the region, and host lines.
-/
module

public import proofs.«01_k».proof.Proof.Gen.KernelIdeal
public import Idealize.ShloMosaic.Lib.Pipeline.Kit
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 11, 0 < (spec0 w).block.numel := by decide
/-- The windows' arrays and the staging memrefs are whole buffers. -/
theorem arr_whole0 : ∀ w : Fin 11, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | ⟨_ + 11, h⟩ => absurd h (Nat.not_lt.2 (Nat.le_add_left _ _))
theorem stage_whole0 : ∀ (w : Fin 11) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | ⟨_ + 11, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 128 points. -/
theorem N_0 : grid0.N = 128 := by decide

/-- The windows conjoined one by one. -/
theorem bigSep_W0 {M : Type} [URA M] (Φ : Fin 11 → sProp M) : bigSep Finset.univ Φ = iprop(Φ (0 : Fin 11) ∗ Φ (1 : Fin 11) ∗ Φ (2 : Fin 11) ∗ Φ (3 : Fin 11) ∗ Φ (4 : Fin 11) ∗ Φ (5 : Fin 11) ∗ Φ (6 : Fin 11) ∗ Φ (7 : Fin 11) ∗ Φ (8 : Fin 11) ∗ Φ (9 : Fin 11) ∗ Φ (10 : Fin 11)) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ
/-- The core's scoped buffers that are no staging buffer of custom_call 0, each whole at some contents:
    none. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = (BI.emp : sProp (MT nD τ sig Ix Val Name U Lvl)) :=
  Pipeline.scopedRest_eq_of_list spec0 c [] (by decide) (by decide)
-- the unscoped rest of custom_call 0 is 63 buffers: not enumerated (routed whole, as `Pipeline.unscopedRest`)

/-! ## @main as segments and as a chain of items (Lib/Pipeline/Regions.lean `θ_run_regions_kit`, `Pipeline.chain`) -/

/-- 49 host operations of @kernel (main_call0), in order. -/
abbrev hostOps0 : List (HloOp τ sig (Elt F)) :=
  ( StableHlo.TRef.reshape (.of main_arg0 : StableHlo.TRef sig ⟨S128x17x8192, .f32⟩) (.of main_call0_v0 : StableHlo.TRef sig ⟨S128x17x2048x4, .f32⟩) (rfl : (.f32 : EltTy) = .f32) shapeCasts_S128x17x8192_S128x17x2048x4
  :: StableHlo.TRef.unary (.of main_call0_v0 : StableHlo.TRef sig ⟨S128x17x2048x4, .f32⟩) (.of main_call0_v1 : StableHlo.TRef sig ⟨S128x4x17x2048, .f32⟩) (transpose S128x4x17x2048 [0, 3, 1, 2] · transposes_S128x17x2048x4_S128x4x17x2048_0_3_1_2)
  :: StableHlo.TRef.unary (.of main_call0_v1 : StableHlo.TRef sig ⟨S128x4x17x2048, .f32⟩) (.of main_call0_v2 : StableHlo.TRef sig ⟨S128x4x17x2048, .bf16⟩) (truncf .bf16 · bitsLt_bf16_f32)
  :: StableHlo.TRef.nullary (.of main_call0_cst : StableHlo.TRef sig ⟨S_, .f32⟩) (constant S_ .f32 0x3727C5AC#32)
  :: StableHlo.TRef.unary (.of main_call0_cst : StableHlo.TRef sig ⟨S_, .f32⟩) (.of main_call0_v3 : StableHlo.TRef sig ⟨S32, .f32⟩) (broadcastInDim S32 ![] bcast_S_S32)
  :: StableHlo.TRef.binary (.of main_arg8 : StableHlo.TRef sig ⟨S32, .f32⟩) (.of main_call0_v3 : StableHlo.TRef sig ⟨S32, .f32⟩) (.of main_call0_v4 : StableHlo.TRef sig ⟨S32, .f32⟩) addf
  :: StableHlo.TRef.unary (.of main_call0_v4 : StableHlo.TRef sig ⟨S32, .f32⟩) (.of main_call0_v5 : StableHlo.TRef sig ⟨S32, .f32⟩) Host.rsqrt
  :: StableHlo.TRef.binary (.of main_arg5 : StableHlo.TRef sig ⟨S32, .f32⟩) (.of main_call0_v5 : StableHlo.TRef sig ⟨S32, .f32⟩) (.of main_call0_v6 : StableHlo.TRef sig ⟨S32, .f32⟩) mulf
  :: StableHlo.TRef.binary (.of main_arg4 : StableHlo.TRef sig ⟨S32, .f32⟩) (.of main_arg7 : StableHlo.TRef sig ⟨S32, .f32⟩) (.of main_call0_v7 : StableHlo.TRef sig ⟨S32, .f32⟩) subf
  :: StableHlo.TRef.binary (.of main_call0_v7 : StableHlo.TRef sig ⟨S32, .f32⟩) (.of main_call0_v6 : StableHlo.TRef sig ⟨S32, .f32⟩) (.of main_call0_v8 : StableHlo.TRef sig ⟨S32, .f32⟩) mulf
  :: StableHlo.TRef.binary (.of main_call0_v8 : StableHlo.TRef sig ⟨S32, .f32⟩) (.of main_arg6 : StableHlo.TRef sig ⟨S32, .f32⟩) (.of main_call0_v9 : StableHlo.TRef sig ⟨S32, .f32⟩) addf
  :: StableHlo.TRef.unary (.of main_arg3 : StableHlo.TRef sig ⟨S32x17x5, .f32⟩) (.of main_call0_v10 : StableHlo.TRef sig ⟨S32x5x17, .f32⟩) (transpose S32x5x17 [0, 2, 1] · transposes_S32x17x5_S32x5x17_0_2_1)
  :: StableHlo.TRef.reshape (.of main_call0_v10 : StableHlo.TRef sig ⟨S32x5x17, .f32⟩) (.of main_call0_v11 : StableHlo.TRef sig ⟨S32x85, .f32⟩) (rfl : (.f32 : EltTy) = .f32) shapeCasts_S32x5x17_S32x85
  :: StableHlo.TRef.unary (.of main_call0_v6 : StableHlo.TRef sig ⟨S32, .f32⟩) (.of main_call0_v12 : StableHlo.TRef sig ⟨S32x1, .f32⟩) (broadcastInDim S32x1 ![0] bcast_S32_S32x1_0)
  :: StableHlo.TRef.unary (.of main_call0_v12 : StableHlo.TRef sig ⟨S32x1, .f32⟩) (.of main_call0_v13 : StableHlo.TRef sig ⟨S32x85, .f32⟩) (broadcastInDim S32x85 ![0, 1] bcast_S32x1_S32x85_0_1)
  :: StableHlo.TRef.binary (.of main_call0_v11 : StableHlo.TRef sig ⟨S32x85, .f32⟩) (.of main_call0_v13 : StableHlo.TRef sig ⟨S32x85, .f32⟩) (.of main_call0_v14 : StableHlo.TRef sig ⟨S32x85, .f32⟩) mulf
  :: StableHlo.TRef.unary (.of main_call0_v9 : StableHlo.TRef sig ⟨S32, .f32⟩) (.of main_call0_v15 : StableHlo.TRef sig ⟨S32x1, .f32⟩) (broadcastInDim S32x1 ![0] bcast_S32_S32x1_0)
  :: StableHlo.TRef.binary (.of main_call0_v14 : StableHlo.TRef sig ⟨S32x85, .f32⟩) (.of main_call0_v15 : StableHlo.TRef sig ⟨S32x1, .f32⟩) (.of main_call0_v16 : StableHlo.TRef sig ⟨S32x86, .f32⟩) (fun a b => concatenate S32x86 1 [⟨S32x85, a⟩, ⟨S32x1, b⟩] concatenates_S32x85_S32x1_S32x86_d1)
  :: StableHlo.TRef.nullary (.of main_call0_cst_0 : StableHlo.TRef sig ⟨S_, .f32⟩) (constant S_ .f32 0x3727C5AC#32)
  :: StableHlo.TRef.unary (.of main_call0_cst_0 : StableHlo.TRef sig ⟨S_, .f32⟩) (.of main_call0_v17 : StableHlo.TRef sig ⟨S64, .f32⟩) (broadcastInDim S64 ![] bcast_S_S64)
  :: StableHlo.TRef.binary (.of main_arg14 : StableHlo.TRef sig ⟨S64, .f32⟩) (.of main_call0_v17 : StableHlo.TRef sig ⟨S64, .f32⟩) (.of main_call0_v18 : StableHlo.TRef sig ⟨S64, .f32⟩) addf
  :: StableHlo.TRef.unary (.of main_call0_v18 : StableHlo.TRef sig ⟨S64, .f32⟩) (.of main_call0_v19 : StableHlo.TRef sig ⟨S64, .f32⟩) Host.rsqrt
  :: StableHlo.TRef.binary (.of main_arg11 : StableHlo.TRef sig ⟨S64, .f32⟩) (.of main_call0_v19 : StableHlo.TRef sig ⟨S64, .f32⟩) (.of main_call0_v20 : StableHlo.TRef sig ⟨S64, .f32⟩) mulf
  :: StableHlo.TRef.binary (.of main_arg10 : StableHlo.TRef sig ⟨S64, .f32⟩) (.of main_arg13 : StableHlo.TRef sig ⟨S64, .f32⟩) (.of main_call0_v21 : StableHlo.TRef sig ⟨S64, .f32⟩) subf
  :: StableHlo.TRef.binary (.of main_call0_v21 : StableHlo.TRef sig ⟨S64, .f32⟩) (.of main_call0_v20 : StableHlo.TRef sig ⟨S64, .f32⟩) (.of main_call0_v22 : StableHlo.TRef sig ⟨S64, .f32⟩) mulf
  :: StableHlo.TRef.binary (.of main_call0_v22 : StableHlo.TRef sig ⟨S64, .f32⟩) (.of main_arg12 : StableHlo.TRef sig ⟨S64, .f32⟩) (.of main_call0_v23 : StableHlo.TRef sig ⟨S64, .f32⟩) addf
  :: StableHlo.TRef.unary (.of main_arg9 : StableHlo.TRef sig ⟨S64x32x5, .f32⟩) (.of main_call0_v24 : StableHlo.TRef sig ⟨S64x5x32, .f32⟩) (transpose S64x5x32 [0, 2, 1] · transposes_S64x32x5_S64x5x32_0_2_1)
  :: StableHlo.TRef.reshape (.of main_call0_v24 : StableHlo.TRef sig ⟨S64x5x32, .f32⟩) (.of main_call0_v25 : StableHlo.TRef sig ⟨S64x160, .f32⟩) (rfl : (.f32 : EltTy) = .f32) shapeCasts_S64x5x32_S64x160
  :: StableHlo.TRef.unary (.of main_call0_v20 : StableHlo.TRef sig ⟨S64, .f32⟩) (.of main_call0_v26 : StableHlo.TRef sig ⟨S64x1, .f32⟩) (broadcastInDim S64x1 ![0] bcast_S64_S64x1_0)
  :: StableHlo.TRef.unary (.of main_call0_v26 : StableHlo.TRef sig ⟨S64x1, .f32⟩) (.of main_call0_v27 : StableHlo.TRef sig ⟨S64x160, .f32⟩) (broadcastInDim S64x160 ![0, 1] bcast_S64x1_S64x160_0_1)
  :: StableHlo.TRef.binary (.of main_call0_v25 : StableHlo.TRef sig ⟨S64x160, .f32⟩) (.of main_call0_v27 : StableHlo.TRef sig ⟨S64x160, .f32⟩) (.of main_call0_v28 : StableHlo.TRef sig ⟨S64x160, .f32⟩) mulf
  :: StableHlo.TRef.unary (.of main_call0_v23 : StableHlo.TRef sig ⟨S64, .f32⟩) (.of main_call0_v29 : StableHlo.TRef sig ⟨S64x1, .f32⟩) (broadcastInDim S64x1 ![0] bcast_S64_S64x1_0)
  :: StableHlo.TRef.binary (.of main_call0_v28 : StableHlo.TRef sig ⟨S64x160, .f32⟩) (.of main_call0_v29 : StableHlo.TRef sig ⟨S64x1, .f32⟩) (.of main_call0_v30 : StableHlo.TRef sig ⟨S64x161, .f32⟩) (fun a b => concatenate S64x161 1 [⟨S64x160, a⟩, ⟨S64x1, b⟩] concatenates_S64x160_S64x1_S64x161_d1)
  :: StableHlo.TRef.unary (.of main_arg15 : StableHlo.TRef sig ⟨S64x16, .f32⟩) (.of main_call0_v31 : StableHlo.TRef sig ⟨S16x64, .f32⟩) (transpose S16x64 [1, 0] · transposes_S64x16_S16x64_1_0)
  :: StableHlo.TRef.binary (.of main_arg15 : StableHlo.TRef sig ⟨S64x16, .f32⟩) (.of main_arg16 : StableHlo.TRef sig ⟨S16, .f32⟩) (.of main_call0_v32 : StableHlo.TRef sig ⟨S64, .f32⟩) (fun l r => Host.dotGeneral dot_S64x16_S16_S64_1_0_0_n_n_n none l r)
  :: StableHlo.TRef.unary (.of main_call0_v32 : StableHlo.TRef sig ⟨S64, .f32⟩) (.of main_call0_v33 : StableHlo.TRef sig ⟨S1x64, .f32⟩) (broadcastInDim S1x64 ![1] bcast_S64_S1x64_1)
  :: StableHlo.TRef.binary (.of main_arg15 : StableHlo.TRef sig ⟨S64x16, .f32⟩) (.of main_arg17 : StableHlo.TRef sig ⟨S16, .f32⟩) (.of main_call0_v34 : StableHlo.TRef sig ⟨S64, .f32⟩) (fun l r => Host.dotGeneral dot_S64x16_S16_S64_1_0_0_n_n_n none l r)
  :: StableHlo.TRef.unary (.of main_call0_v34 : StableHlo.TRef sig ⟨S64, .f32⟩) (.of main_call0_v35 : StableHlo.TRef sig ⟨S1x64, .f32⟩) (broadcastInDim S1x64 ![1] bcast_S64_S1x64_1)
  :: StableHlo.TRef.nary (Ts := ![⟨S16x64, .f32⟩, ⟨S1x64, .f32⟩, ⟨S1x64, .f32⟩]) (Fin.cons (.of main_call0_v31 : StableHlo.TRef sig ⟨S16x64, .f32⟩) (Fin.cons (.of main_call0_v33 : StableHlo.TRef sig ⟨S1x64, .f32⟩) (Fin.cons (.of main_call0_v35 : StableHlo.TRef sig ⟨S1x64, .f32⟩) (fun k => k.elim0)))) (.of main_call0_v36 : StableHlo.TRef sig ⟨S18x64, .f32⟩) (fun u => (concatenate S18x64 0 [⟨S16x64, (u 0 : (⟨S16x64, .f32⟩ : BufTy).Contents (Elt F))⟩, ⟨S1x64, (u 1 : (⟨S1x64, .f32⟩ : BufTy).Contents (Elt F))⟩, ⟨S1x64, (u 2 : (⟨S1x64, .f32⟩ : BufTy).Contents (Elt F))⟩] concatenates_S16x64_S1x64_S1x64_S18x64_d0 : (⟨S18x64, .f32⟩ : BufTy).Contents (Elt F)))
  :: StableHlo.TRef.binary (.of main_arg1 : StableHlo.TRef sig ⟨S128x17, .f32⟩) (.of main_arg2 : StableHlo.TRef sig ⟨S128x17, .f32⟩) (.of main_call0_v37 : StableHlo.TRef sig ⟨S128x34, .f32⟩) (fun a b => concatenate S128x34 1 [⟨S128x17, a⟩, ⟨S128x17, b⟩] concatenates_S128x17_S128x17_S128x34_d1)
  :: StableHlo.TRef.unary (.of main_call0_v37 : StableHlo.TRef sig ⟨S128x34, .f32⟩) (.of main_call0_v38 : StableHlo.TRef sig ⟨S128x1x34, .f32⟩) (broadcastInDim S128x1x34 ![0, 2] bcast_S128x34_S128x1x34_0_2)
  :: StableHlo.TRef.unary (.of main_call0_v16 : StableHlo.TRef sig ⟨S32x86, .f32⟩) (.of main_call0_v39 : StableHlo.TRef sig ⟨S32x86, .bf16⟩) (truncf .bf16 · bitsLt_bf16_f32)
  :: StableHlo.TRef.unary (.of main_call0_v30 : StableHlo.TRef sig ⟨S64x161, .f32⟩) (.of main_call0_v40 : StableHlo.TRef sig ⟨S64x161, .bf16⟩) (truncf .bf16 · bitsLt_bf16_f32)
  :: StableHlo.TRef.unary (.of main_call0_v36 : StableHlo.TRef sig ⟨S18x64, .f32⟩) (.of main_call0_v41 : StableHlo.TRef sig ⟨S18x64, .bf16⟩) (truncf .bf16 · bitsLt_bf16_f32)
  :: StableHlo.TRef.unary (.of main_arg18 : StableHlo.TRef sig ⟨S16, .f32⟩) (.of main_call0_v42 : StableHlo.TRef sig ⟨S1x16, .f32⟩) (broadcastInDim S1x16 ![1] bcast_S16_S1x16_1)
  :: StableHlo.TRef.unary (.of main_arg19 : StableHlo.TRef sig ⟨S34x34, .f32⟩) (.of main_call0_v43 : StableHlo.TRef sig ⟨S34x34, .f32⟩) (transpose S34x34 [1, 0] · transposes_S34x34_S34x34_1_0)
  :: StableHlo.TRef.unary (.of main_arg20 : StableHlo.TRef sig ⟨S34, .f32⟩) (.of main_call0_v44 : StableHlo.TRef sig ⟨S1x34, .f32⟩) (broadcastInDim S1x34 ![1] bcast_S34_S1x34_1)
  :: StableHlo.TRef.unary (.of main_arg21 : StableHlo.TRef sig ⟨S2x50, .f32⟩) (.of main_call0_v45 : StableHlo.TRef sig ⟨S50x2, .f32⟩) (transpose S50x2 [1, 0] · transposes_S2x50_S50x2_1_0)
  :: StableHlo.TRef.unary (.of main_arg22 : StableHlo.TRef sig ⟨S2, .f32⟩) (.of main_call0_v46 : StableHlo.TRef sig ⟨S1x2, .f32⟩) (broadcastInDim S1x2 ![1] bcast_S2_S1x2_1)
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.nary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @kernel (main_call0), in order. -/
abbrev hostOps1 : List (HloOp τ sig (Elt F)) :=
  [ StableHlo.TRef.reshape (.of main_call0_v47 : StableHlo.TRef sig ⟨S128x1x2, .f32⟩) (.of main_v0 : StableHlo.TRef sig ⟨S128x2, .f32⟩) (rfl : (.f32 : EltTy) = .f32) shapeCasts_S128x1x2_S128x2 ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  StableHlo.reshape_bufs_sub ..
/-- This statement, from @kernel (main_call0), is the chain of its own items: each stretch of the function's operations aligned
    one at a time, every other item taken whole, then `chain_rfl`. -/
theorem main_chain_main_call0 : fn_kernel.body (F := F) (.of main_arg0) (.of main_arg1) (.of main_arg2) (.of main_arg3) (.of main_arg4) (.of main_arg5) (.of main_arg6) (.of main_arg7) (.of main_arg8) (.of main_arg9) (.of main_arg10) (.of main_arg11) (.of main_arg12) (.of main_arg13) (.of main_arg14) (.of main_arg15) (.of main_arg16) (.of main_arg17) (.of main_arg18) (.of main_arg19) (.of main_arg20) (.of main_arg21) (.of main_arg22) main_call0 = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [StableHlo.chain_seq_cons, Pipeline.chain_cons, StableHlo.chain_seq_cons]
  chain_rfl

/-- `main_chain` with each call that gives several items as one item, so that every statement has its own item. -/
theorem main_chain_calls (c : Dev nD) : main (F := F) c = (Pipeline.chain
  [ fn_kernel.body (F := F) (.of main_arg0) (.of main_arg1) (.of main_arg2) (.of main_arg3) (.of main_arg4) (.of main_arg5) (.of main_arg6) (.of main_arg7) (.of main_arg8) (.of main_arg9) (.of main_arg10) (.of main_arg11) (.of main_arg12) (.of main_arg13) (.of main_arg14) (.of main_arg15) (.of main_arg16) (.of main_arg17) (.of main_arg18) (.of main_arg19) (.of main_arg20) (.of main_arg21) (.of main_arg22) main_call0 ] : Prog (TpuEff nD τ sig (Elt F) (Pipeline.Sig Λ₀ (Fin 1) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [main_chain_calls, main_chain_main_call0]
  simp only [Pipeline.chain, Pipeline.chainK, bind_assoc, pure_bind, bind_pure_unit]

end Cert.KernelIdeal.Gen

end
-- ==== Proof.KernelIdealRun.lean ====
/-
The run of the program `KernelIdeal`: what its body stores, the pipeline's proof data, the launch, and the frame.
-/
module

public import proofs.«01_k».proof.Proof.KernelIdealLaunch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The program's argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- No host operation before the region writes an argument: the region finds each as launched. -/
theorem V_arg (c : Dev nD) : ∀ b ∈ argRefs, V m c b = m ((c : Thread nD τ).loc b) := fun b hb =>
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rintro rfl; revert hb; decide)))

/-- No host operation after the region writes an argument and no window's array is one: each ends as launched. -/
theorem tail_arg (dats : (p : Fin 1) → (c : Dev nD) → Dat τ (Elt F) Unit ℕ (UR sig nD τ) ℕ (cfgs p) c) (c : Dev nD) :
    ∀ b ∈ argRefs, Pipeline.afterTail₀ cfgs dats 0 (V0 m) [hostOps1] c b = m ((c : Thread nD τ).loc b) := fun b hb => by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by rintro rfl; revert hb; decide))),
    Pipeline.withArrays_of_ne _ c (V0 m c) _ b (fun w h => by subst h; revert hb; revert w; decide)]
  exact V_arg m c b hb

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends at the library's frame post leaves every argument as launched. -/
theorem frame_of (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) [hostOps1]) r) (c : Dev nD) :
    ∀ b ∈ argRefs, r.2.mem ((c.tc : Thread nD τ).loc b) = m ((c.tc : Thread nD τ).loc b) := fun b hb =>
  ((h c).2 b (Pipeline.mem_restRefs_of b (by revert b; decide) (by revert b; decide))).trans (tail_arg m dats c b hb)

/-! ## The body's accesses -/

abbrev r0_0 : Rect S1x4x17x2048 := Rect.unit (s := S1x4x17x2048) ![0, 0, 0, 0] S1x1x17x2048.size inb_S1x4x17x2048_S1x1x17x2048_0_0_0_0
abbrev r0_1 : Rect S1x4x17x2048 := Rect.unit (s := S1x4x17x2048) ![0, 1, 0, 0] S1x1x17x2048.size inb_S1x4x17x2048_S1x1x17x2048_0_1_0_0
abbrev r0_2 : Rect S1x4x17x2048 := Rect.unit (s := S1x4x17x2048) ![0, 2, 0, 0] S1x1x17x2048.size inb_S1x4x17x2048_S1x1x17x2048_0_2_0_0
abbrev r0_3 : Rect S1x4x17x2048 := Rect.unit (s := S1x4x17x2048) ![0, 3, 0, 0] S1x1x17x2048.size inb_S1x4x17x2048_S1x1x17x2048_0_3_0_0
abbrev r0_4 : Rect S32x86 := Rect.unit (s := S32x86) ![0, 0] S32x86.size inb_S32x86_S32x86_0_0
abbrev r0_5 : Rect S64x161 := Rect.unit (s := S64x161) ![0, 0] S64x161.size inb_S64x161_S64x161_0_0
abbrev r0_6 : Rect S18x64 := Rect.unit (s := S18x64) ![0, 0] S18x64.size inb_S18x64_S18x64_0_0
abbrev r0_7 : Rect S1x16 := Rect.unit (s := S1x16) ![0, 0] S1x16.size inb_S1x16_S1x16_0_0
abbrev r0_8 : Rect S1x1x34 := Rect.unit (s := S1x1x34) ![0, 0, 0] S1x1x34.size inb_S1x1x34_S1x1x34_0_0_0
abbrev r0_9 : Rect S34x34 := Rect.unit (s := S34x34) ![0, 0] S34x34.size inb_S34x34_S34x34_0_0
abbrev r0_10 : Rect S1x34 := Rect.unit (s := S1x34) ![0, 0] S1x34.size inb_S1x34_S1x34_0_0
abbrev r0_11 : Rect S50x2 := Rect.unit (s := S50x2) ![0, 0] S50x2.size inb_S50x2_S50x2_0_0
abbrev r0_12 : Rect S1x2 := Rect.unit (s := S1x2) ![0, 0] S1x2.size inb_S1x2_S1x2_0_0
abbrev r0_13 : Rect S1x1x2 := Rect.unit (s := S1x1x2) ![0, 0, 0] S1x1x2.size inb_S1x1x2_S1x1x2_0_0_0

/-! ## What the body stores, of the blocks it loads -/

/-- The first block's activation at time phase 0. -/
def act0 (x0 : Vec F S1x4x17x2048 .bf16) (x2 : Vec F S32x86 .bf16) : FVec F S32x2048 .f32 :=
  k0_pay10 (View.ld x0 r0_0) (View.ld x0 r0_1) (View.ld x0 r0_2) (View.ld x0 r0_3) (View.ld x2 r0_4)
/-- The first block's convolution at time phase 1, before its relu. -/
def pre1 (x0 : Vec F S1x4x17x2048 .bf16) (x2 : Vec F S32x86 .bf16) : FVec F S32x2048 .f32 :=
  k0_pay11 (View.ld x0 r0_0) (View.ld x0 r0_1) (View.ld x0 r0_2) (View.ld x0 r0_3) (View.ld x2 r0_4)
/-- The second block's activation at time phase 0. -/
def node0 (x0 : Vec F S1x4x17x2048 .bf16) (x2 : Vec F S32x86 .bf16) (x3 : Vec F S64x161 .bf16) : FVec F S64x2048 .f32 :=
  k0_pay16 k0_pay2 (k0_pay3 (View.ld x0 r0_0)) (k0_pay4 (View.ld x0 r0_1)) (k0_pay5 (View.ld x0 r0_2)) (k0_pay6 (View.ld x0 r0_3))
    (k0_pay7 (View.ld x0 r0_0)) (k0_pay8 (View.ld x0 r0_1)) (act0 x0 x2) (pre1 x0 x2) (View.ld x2 r0_4) (View.ld x2 r0_4) (View.ld x3 r0_5)
/-- The second block's convolution at time phase 1, before its relu. -/
def node1 (x0 : Vec F S1x4x17x2048 .bf16) (x2 : Vec F S32x86 .bf16) (x3 : Vec F S64x161 .bf16) : FVec F S64x2048 .f32 :=
  k0_pay17 k0_pay2 (k0_pay3 (View.ld x0 r0_0)) (k0_pay4 (View.ld x0 r0_1)) (k0_pay5 (View.ld x0 r0_2)) (k0_pay6 (View.ld x0 r0_3))
    (k0_pay7 (View.ld x0 r0_0)) (k0_pay8 (View.ld x0 r0_1)) (act0 x0 x2) (pre1 x0 x2) (View.ld x2 r0_4) (View.ld x2 r0_4) (View.ld x3 r0_5)
/-- The attention's mean row from the two node activations, the attention weights and the bias. -/
def attn (n0 n1 : FVec F S64x2048 .f32) (wg : Vec F S18x64 .bf16) (gb : Vec F S1x16 .f32) : FVec F S1x16 .f32 :=
  k0_pay28 (k0_pay18 n0 n1 wg) (k0_pay22 n0 n1 wg) (k0_pay23 n0 n1 wg) (k0_pay24 n0 n1 wg) (k0_pay25 n0 n1 wg)
    (k0_pay26 n0 n1 wg) (k0_pay27 n0 n1 wg) gb
/-- What the body leaves in the result's block: one store of the head's two numbers. -/
def out0_10 (x0 : Vec F S1x4x17x2048 .bf16) (x1 : Vec F S1x1x34 .f32) (x2 : Vec F S32x86 .bf16) (x3 : Vec F S64x161 .bf16) (x4 : Vec F S18x64 .bf16) (x5 : Vec F S1x16 .f32) (x6 : Vec F S34x34 .f32) (x7 : Vec F S1x34 .f32) (x8 : Vec F S50x2 .f32) (x9 : Vec F S1x2 .f32) : Vec F S1x1x2 .f32 :=
  View.canon [⟨r0_13, k0_pay1 (attn (node0 x0 x2 x3) (node1 x0 x2 x3) (View.ld x4 r0_6) (View.ld x5 r0_7))
    (View.ld x1 r0_8) (View.ld x6 r0_9) (View.ld x7 r0_10) (View.ld x8 r0_11) (View.ld x9 r0_12)⟩]

/-- Its stores tile the buffer (checked by evaluation), so they cover it. -/
theorem cover0_10 (p0 : Vec F S1x1x2 .f32) (y : S1x1x2.Idx) :
    ∃ pc ∈ ([⟨r0_13, p0⟩] : List (View.Piece (Elt F) S1x1x2 .f32)), y ∈ pc.1.set :=
  View.cover_of_tiled [⟨r0_13, p0⟩] S1x1x2.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x4x17x2048 .bf16) (harg1 : arg1.IsWhole) (arg2 : Memref sig .tc .vmem S1x1x34 .f32) (harg2 : arg2.IsWhole) (arg3 : Memref sig .tc .vmem S32x86 .bf16) (harg3 : arg3.IsWhole) (arg4 : Memref sig .tc .vmem S64x161 .bf16) (harg4 : arg4.IsWhole) (arg5 : Memref sig .tc .vmem S18x64 .bf16) (harg5 : arg5.IsWhole) (arg6 : Memref sig .tc .vmem S1x16 .f32) (harg6 : arg6.IsWhole) (arg7 : Memref sig .tc .vmem S34x34 .f32) (harg7 : arg7.IsWhole) (arg8 : Memref sig .tc .vmem S1x34 .f32) (harg8 : arg8.IsWhole) (arg9 : Memref sig .tc .vmem S50x2 .f32) (harg9 : arg9.IsWhole) (arg10 : Memref sig .tc .vmem S1x2 .f32) (harg10 : arg10.IsWhole) (arg11 : Memref sig .tc .vmem S1x1x2 .f32) (harg11 : arg11.IsWhole)
    (x0 : Vec F S1x4x17x2048 .bf16) (x1 : Vec F S1x1x34 .f32) (x2 : Vec F S32x86 .bf16) (x3 : Vec F S64x161 .bf16) (x4 : Vec F S18x64 .bf16) (x5 : Vec F S1x16 .f32) (x6 : Vec F S34x34 .f32) (x7 : Vec F S1x34 .f32) (x8 : Vec F S50x2 .f32) (x9 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover0_10 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every run ends with its arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨fun c => by
    have k := frame_of m (dats m) h.1 c
    refine ⟨?_, ?_, ?_, ?_, ?_, ?_, ?_, ?_, ?_, ?_, ?_, ?_, ?_, ?_, ?_, ?_, ?_, ?_, ?_, ?_, ?_, ?_, ?_⟩ <;>
      exact k _ (by decide), h.2⟩) (run_main_quiescent m ρ)

end Cert.KernelIdeal.Gen

end
-- ==== Proof.Spec.lean ====
/-
The mathematics of the classifier over the real numbers: the two convolution blocks, the node features, and the
banded attention. Both programs are shown to compute these.
-/
module

public import Idealize.ShloMosaic.Lib.Pointwise

@[expose] public section

noncomputable section

namespace Cert.Gat

open Idealize.ShloMosaic
open scoped BigOperators

/-! ## Real numbers among the extended reals -/

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_max (a b : ℝ) : ((max a b : ℝ) : EReal) = max (a : EReal) (b : EReal) :=
  EReal.coe_strictMono.monotone.map_max

theorem coe_ite (p : Prop) [Decidable p] (a b : ℝ) : ((if p then a else b : ℝ) : EReal) = if p then (a : EReal) else (b : EReal) := by
  split <;> rfl

theorem div_coe (a b : ℝ) (hb : b ≠ 0) : Ideal.div (a : EReal) (b : EReal) = ((a / b : ℝ) : EReal) := by
  unfold Ideal.div
  rw [if_neg (fun h => hb (EReal.coe_eq_zero.1 h)), ← EReal.coe_inv, ← EReal.coe_mul, div_eq_mul_inv]

/-- A sum over five groups of `I` and one more. -/
theorem sum_groups {M : Type*} [AddCommMonoid M] (I : ℕ) (f : Fin (5 * I + 1) → M) :
    ∑ x, f x = (∑ j : Fin 5, ∑ i : Fin I, f ⟨I * j + i, by
      have := j.isLt; have := i.isLt
      have : I * j + i < I * j + I := by omega
      have : I * j + I ≤ 5 * I := by rw [← Nat.mul_succ, Nat.mul_comm]; exact Nat.mul_le_mul_right _ j.isLt
      omega⟩) + f ⟨5 * I, by omega⟩ := by
  rw [Fin.sum_univ_castSucc]
  refine congrArg₂ (· + ·) ?_ rfl
  rw [← Finset.sum_product', ← Equiv.sum_comp finProdFinEquiv]
  refine Finset.sum_congr rfl fun x _ => congrArg f (Fin.ext ?_)
  show (x.2 : ℕ) + I * x.1 = I * x.1 + x.2
  omega

/-! ## The convolution blocks -/

/-- A row of `T` numbers with two zeros on either side. -/
def pad2 (T : ℕ) (h : ℕ → ℝ) (s : ℕ) : ℝ := if 2 ≤ s ∧ s < T + 2 then h (s - 2) else 0

theorem pad2_lo (T : ℕ) (h : ℕ → ℝ) (s : ℕ) (hs : s < 2) : pad2 T h s = 0 := by
  unfold pad2; rw [if_neg (by omega)]

theorem pad2_hi (T : ℕ) (h : ℕ → ℝ) (s : ℕ) (hs : T + 2 ≤ s) : pad2 T h s = 0 := by
  unfold pad2; rw [if_neg (by omega)]

theorem pad2_mid (T : ℕ) (h : ℕ → ℝ) (t s : ℕ) (hs : s = t + 2) (ht : t < T) : pad2 T h s = h t := by
  subst hs; unfold pad2; rw [if_pos (by omega), Nat.add_sub_cancel]

/-- One channel of a five-tap convolution with its batch norm folded in (`sc` the scale, `sh` the shift), then relu. -/
def act {I : ℕ} (w : Fin I → Fin 5 → ℝ) (sc sh : ℝ) (hp : Fin I → ℕ → ℝ) (t : ℕ) : ℝ :=
  max ((∑ j : Fin 5, ∑ i : Fin I, w i j * sc * hp i (t + j)) + sh) 0

/-! ## The parameters -/

/-- The finite numbers the two blocks and the attention are made of. -/
structure Par where
  W1 : Fin 32 → Fin 17 → Fin 5 → ℝ
  b1 : Fin 32 → ℝ
  g1 : Fin 32 → ℝ
  e1 : Fin 32 → ℝ
  m1 : Fin 32 → ℝ
  r1 : Fin 32 → ℝ
  W2 : Fin 64 → Fin 32 → Fin 5 → ℝ
  b2 : Fin 64 → ℝ
  g2 : Fin 64 → ℝ
  e2 : Fin 64 → ℝ
  m2 : Fin 64 → ℝ
  r2 : Fin 64 → ℝ
  G : Fin 64 → Fin 16 → ℝ
  src : Fin 16 → ℝ
  dst : Fin 16 → ℝ
  sl : ℝ

variable (P : Par) (X : Fin 17 → ℕ → ℝ)

def Par.s1 (o : Fin 32) : ℝ := P.g1 o * P.r1 o
def Par.t1 (o : Fin 32) : ℝ := (P.b1 o - P.m1 o) * P.s1 o + P.e1 o
def Par.s2 (o : Fin 64) : ℝ := P.g2 o * P.r2 o
def Par.t2 (o : Fin 64) : ℝ := (P.b2 o - P.m2 o) * P.s2 o + P.e2 o

/-- The signal with its zeros, the first block's activation and its pooled rows, the second's, and the nodes. -/
def xp (i : Fin 17) (s : ℕ) : ℝ := pad2 8192 (X i) s
def c1 (o : Fin 32) (t : ℕ) : ℝ := act (P.W1 o) (P.s1 o) (P.t1 o) (xp X) t
def h1 (o : Fin 32) (n : ℕ) : ℝ := max (c1 P X o (2 * n)) (c1 P X o (2 * n + 1))
def hp (o : Fin 32) (s : ℕ) : ℝ := pad2 4096 (h1 P X o) s
def c2 (o : Fin 64) (t : ℕ) : ℝ := act (P.W2 o) (P.s2 o) (P.t2 o) (hp P X) t
def nodes (o : Fin 64) (n : ℕ) : ℝ := max (c2 P X o (2 * n)) (c2 P X o (2 * n + 1))

/-! ## The attention -/

def wx (h : Fin 16) (n : ℕ) : ℝ := ∑ o : Fin 64, nodes P X o n * P.G o h
def esrc (n : ℕ) : ℝ := ∑ h : Fin 16, wx P X h n * P.src h
def edst (n : ℕ) : ℝ := ∑ h : Fin 16, wx P X h n * P.dst h

/-- The neighbour of node `n` at offset `d` (counted from two to the left) exists. -/
def valid (n d : ℕ) : Prop := 2 ≤ n + d ∧ n + d < 2050
instance (n d : ℕ) : Decidable (valid n d) := by unfold valid; infer_instance

def zz (n d : ℕ) : ℝ := esrc P X (n + d - 2) + edst P X n
def lr (n d : ℕ) : ℝ := max (zz P X n d) (P.sl * zz P X n d)
/-- The logit, minus infinity where there is no neighbour. -/
def lg (n d : ℕ) : EReal := if valid n d then (lr P X n d : EReal) else ⊥
def mx (n : ℕ) : EReal := max (max (max (max (lg P X n 0) (lg P X n 1)) (lg P X n 2)) (lg P X n 3)) (lg P X n 4)
def mr (n : ℕ) : ℝ := (mx P X n).toReal
def ee (n d : ℕ) : ℝ := if valid n d then Real.exp (lr P X n d - mr P X n) else 0
def den (n : ℕ) : ℝ := ∑ d : Fin 5, ee P X n d
def alpha (n d : ℕ) : ℝ := ee P X n d / den P X n
/-- One column of the sum over the nodes of the attended features. -/
def gat (h : Fin 16) : ℝ := ∑ n : Fin 2048, ∑ d : Fin 5, alpha P X n d * pad2 2048 (wx P X h) (n + d)

theorem lg_ne_top (n d : ℕ) : lg P X n d ≠ ⊤ := by
  unfold lg; split
  · exact EReal.coe_ne_top _
  · exact bot_ne_top

theorem mx_coe (n : ℕ) (hn : n < 2048) : mx P X n = (mr P X n : EReal) := by
  refine (EReal.coe_toReal ?_ ?_).symm
  · have this := lg_ne_top P X n
    have hlt : mx P X n < ⊤ := by
      unfold mx
      exact max_lt (max_lt (max_lt (max_lt (this 0).lt_top (this 1).lt_top) (this 2).lt_top) (this 3).lt_top) (this 4).lt_top
    exact hlt.ne
  · have h2 : lg P X n 2 ≤ mx P X n := by
      unfold mx
      exact le_trans (le_max_right _ _) (le_trans (le_max_left _ _) (le_max_left _ _))
    intro h
    rw [h, le_bot_iff] at h2
    unfold lg at h2
    rw [if_pos (by unfold valid; omega)] at h2
    exact EReal.coe_ne_bot _ h2

theorem exp_lg (n d : ℕ) (hn : n < 2048) : Ideal.exp (lg P X n d - mx P X n) = (ee P X n d : EReal) := by
  rw [mx_coe P X n hn]
  unfold lg ee
  split
  · rw [← EReal.coe_sub]; rfl
  · rw [EReal.bot_sub]; rfl

theorem ee_nonneg (n d : ℕ) : 0 ≤ ee P X n d := by
  unfold ee; split
  · exact (Real.exp_pos _).le
  · exact le_rfl

theorem den_pos (n : ℕ) (hn : n < 2048) : 0 < den P X n := by
  unfold den
  refine Finset.sum_pos' (fun d _ => ee_nonneg P X n d) ⟨2, Finset.mem_univ _, ?_⟩
  unfold ee
  rw [if_pos (by unfold valid; show 2 ≤ n + 2 ∧ n + 2 < 2050; omega)]
  exact Real.exp_pos _

/-- The weight a node's features get in all: what the nodes that see it give it. -/
def beta (n : ℕ) : ℝ := ∑ d : Fin 5, if d.val ≤ n + 2 ∧ n + 2 - d.val < 2048 then alpha P X (n + 2 - d.val) d else 0

/-- A padded row is a sum over its entries. -/
theorem pad2_sum (w : ℕ → ℝ) (s : ℕ) : pad2 2048 w s = ∑ n : Fin 2048, if n.val + 2 = s then w n.val else 0 := by
  unfold pad2
  split
  · rename_i h
    rw [Finset.sum_eq_single ⟨s - 2, by omega⟩]
    · rw [if_pos (by dsimp only; omega)]
    · intro b _ hb
      rw [if_neg (fun hh => hb (Fin.ext (by dsimp only; omega)))]
    · exact fun hh => absurd (Finset.mem_univ _) hh
  · rename_i h
    refine (Finset.sum_eq_zero fun n _ => if_neg ?_).symm
    have := n.isLt
    omega

/-- The attended features summed over the nodes are the features summed with the total weights. -/
theorem gat_eq (h : Fin 16) : gat P X h = ∑ n : Fin 2048, beta P X n.val * wx P X h n.val := by
  have hb : ∀ n : Fin 2048, beta P X n.val = ∑ d : Fin 5, ∑ k : Fin 2048, if n.val + 2 = k.val + d.val then alpha P X k.val d else 0 := by
    intro n
    unfold beta
    refine Finset.sum_congr rfl fun d _ => ?_
    have := n.isLt
    have := d.isLt
    split
    · rename_i h
      rw [Finset.sum_eq_single ⟨n.val + 2 - d.val, h.2⟩]
      · rw [if_pos (by dsimp only; omega)]
      · intro b _ hb
        rw [if_neg (fun hh => hb (Fin.ext (by dsimp only; omega)))]
      · exact fun hh => absurd (Finset.mem_univ _) hh
    · rename_i h
      refine (Finset.sum_eq_zero fun k _ => if_neg ?_).symm
      have := k.isLt
      omega
  unfold gat
  simp only [hb, pad2_sum, Finset.sum_mul, Finset.mul_sum, ite_mul, mul_ite, zero_mul, mul_zero]
  calc _ = ∑ k : Fin 2048, ∑ n : Fin 2048, ∑ d : Fin 5, _ := Finset.sum_congr rfl fun k _ => Finset.sum_comm
    _ = ∑ n : Fin 2048, ∑ k : Fin 2048, ∑ d : Fin 5, _ := Finset.sum_comm
    _ = _ := Finset.sum_congr rfl fun n _ => Finset.sum_comm

theorem alpha_coe (n : ℕ) (hn : n < 2048) (d : ℕ) :
    (ee P X n d : EReal) * Ideal.div 1 ((ee P X n 0 : EReal) + (ee P X n 1 : EReal) + (ee P X n 2 : EReal) + (ee P X n 3 : EReal) + (ee P X n 4 : EReal))
      = (alpha P X n d : EReal) := by
  have hd : (ee P X n 0 : EReal) + (ee P X n 1 : EReal) + (ee P X n 2 : EReal) + (ee P X n 3 : EReal) + (ee P X n 4 : EReal) = (den P X n : EReal) := by
    unfold den
    rw [Fin.sum_univ_five, EReal.coe_add, EReal.coe_add, EReal.coe_add, EReal.coe_add]; rfl
  rw [hd, ← EReal.coe_one, div_coe _ _ (den_pos P X n hn).ne', ← EReal.coe_mul]
  unfold alpha
  rw [mul_one_div]

end Cert.Gat

end
-- ==== Proof.Head.lean ====
/-
The head of the network over extended reals: the frequency branch, and the classes over the two branches joined.
-/
module

public import Idealize.ShloMosaic.PureOps.Ideal

@[expose] public section

noncomputable section

namespace Cert.Gat

open Idealize.ShloMosaic
open scoped BigOperators

/-- The frequency branch: a linear layer with its bias, a relu, and the branch's scale. -/
def freq (ft : Fin 34 → EReal) (fw : Fin 34 → Fin 34 → EReal) (fb : Fin 34 → EReal) (j : Fin 34) : EReal :=
  Ideal.ofBits .f32 0x3FC00000#32 * max ((∑ k, ft k * fw j k) + fb j) 0

/-- The classes: a linear layer over the graph branch and the frequency branch joined. -/
def head (gm : Fin 16 → EReal) (ft : Fin 34 → EReal) (fw : Fin 34 → Fin 34 → EReal) (fb : Fin 34 → EReal)
    (cw : Fin 2 → Fin 50 → EReal) (cb : Fin 2 → EReal) (q : Fin 2) : EReal :=
  (∑ i : Fin 50, (if h : i.val < 16 then gm ⟨i.val, h⟩ else freq ft fw fb ⟨i.val - 16, by omega⟩) * cw q i) + cb q

end Cert.Gat

end
-- ==== Proof.Args.lean ====
/-
The arguments of the two programs, the real numbers they hold when they are finite, and the result the
mathematics gives for them.
-/
module

public import proofs.«01_k».proof.Proof.Spec
public import proofs.«01_k».proof.Proof.Head
public import Idealize.ShloMosaic.PureOps.Ideal
public import Idealize.ShloMosaic.Lib.Pointwise

@[expose] public section

noncomputable section

namespace Cert.Gat

open Idealize.ShloMosaic
open scoped BigOperators

/-- The arguments, as arrays of extended reals. -/
structure Args where
  x : FVec Ideal ⟨3, ![128, 17, 8192]⟩ .f32
  delta : FVec Ideal ⟨2, ![128, 17]⟩ .f32
  theta : FVec Ideal ⟨2, ![128, 17]⟩ .f32
  w1 : FVec Ideal ⟨3, ![32, 17, 5]⟩ .f32
  b1 : FVec Ideal ⟨1, ![32]⟩ .f32
  g1 : FVec Ideal ⟨1, ![32]⟩ .f32
  e1 : FVec Ideal ⟨1, ![32]⟩ .f32
  m1 : FVec Ideal ⟨1, ![32]⟩ .f32
  v1 : FVec Ideal ⟨1, ![32]⟩ .f32
  w2 : FVec Ideal ⟨3, ![64, 32, 5]⟩ .f32
  b2 : FVec Ideal ⟨1, ![64]⟩ .f32
  g2 : FVec Ideal ⟨1, ![64]⟩ .f32
  e2 : FVec Ideal ⟨1, ![64]⟩ .f32
  m2 : FVec Ideal ⟨1, ![64]⟩ .f32
  v2 : FVec Ideal ⟨1, ![64]⟩ .f32
  gw : FVec Ideal ⟨2, ![64, 16]⟩ .f32
  src : FVec Ideal ⟨1, ![16]⟩ .f32
  dst : FVec Ideal ⟨1, ![16]⟩ .f32
  gb : FVec Ideal ⟨1, ![16]⟩ .f32
  fw : FVec Ideal ⟨2, ![34, 34]⟩ .f32
  fb : FVec Ideal ⟨1, ![34]⟩ .f32
  cw : FVec Ideal ⟨2, ![2, 50]⟩ .f32
  cb : FVec Ideal ⟨1, ![2]⟩ .f32

/-- An array whose entries are real numbers. -/
def IsReal {S : Shape} (a : FVec Ideal S .f32) : Prop := ∀ i, a i = ((a i).toReal : EReal)

/-- The precondition's content: the arguments the two convolutions and the attention read are real, but for
the variances, whose sums with the norm's constant are above zero. -/
structure Args.Finite (A : Args) : Prop where
  x : IsReal A.x
  w1 : IsReal A.w1
  b1 : IsReal A.b1
  g1 : IsReal A.g1
  e1 : IsReal A.e1
  m1 : IsReal A.m1
  v1_pos : ∀ i, 0 < A.v1 i + Ideal.ofBits .f32 0x3727C5AC#32
  w2 : IsReal A.w2
  b2 : IsReal A.b2
  g2 : IsReal A.g2
  e2 : IsReal A.e2
  m2 : IsReal A.m2
  v2_pos : ∀ i, 0 < A.v2 i + Ideal.ofBits .f32 0x3727C5AC#32
  gw : IsReal A.gw
  src : IsReal A.src
  dst : IsReal A.dst

/-- The slope of the leaky relu. -/
def slope : ℝ := (Ideal.ofBits .f32 0x3E4CCCCD#32).toReal

theorem slope_val : Ideal.ofBits .f32 0x3E4CCCCD#32 = (slope : EReal) ∧ 0 < slope ∧ slope ≤ 1 := by
  have h : Ideal.ofBits .f32 0x3E4CCCCD#32 = (((13421773 : ℝ) / 2 ^ 26 : ℝ) : EReal) := by
    simp [Ideal.ofBits, Ideal.ieee]
    norm_num
    rw [← EReal.coe_mul]
    norm_num
  unfold slope
  rw [h, EReal.toReal_coe]
  exact ⟨rfl, by norm_num, by norm_num⟩

theorem two_pow_val : Ideal.ofBits .f32 0x45000000#32 = ((2048 : ℝ) : EReal) ∧ Ideal.ofBits .f32 0x3A000000#32 = ((1 / 2048 : ℝ) : EReal) ∧ Ideal.ofBits .f32 0xFF800000#32 = ⊥ := by
  refine ⟨?_, ?_, ?_⟩
  · simp [Ideal.ofBits, Ideal.ieee]; norm_num; rw [← EReal.coe_mul]; norm_num
  · simp [Ideal.ofBits, Ideal.ieee]; norm_num; rw [← EReal.coe_mul]; norm_num
  · simp [Ideal.ofBits, Ideal.ieee]

/-- The reciprocal root of a variance and the norm's constant. -/
def rr (v : EReal) : ℝ := (Ideal.rsqrt (v + Ideal.ofBits .f32 0x3727C5AC#32)).toReal

theorem rsqrt_real (w : EReal) (h : 0 < w) : Ideal.rsqrt w = ((Ideal.rsqrt w).toReal : EReal) := by
  induction w with
  | bot => exact absurd h (not_lt.2 bot_le)
  | top => rfl
  | coe r =>
    have hr : 0 < r := EReal.coe_pos.1 h
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.2 hr.le), if_neg hr.ne']
    rw [e, EReal.toReal_coe]

theorem rr_val (v : EReal) (h : 0 < v + Ideal.ofBits .f32 0x3727C5AC#32) : Ideal.rsqrt (v + Ideal.ofBits .f32 0x3727C5AC#32) = (rr v : EReal) :=
  rsqrt_real _ h

/-- The real parameters. -/
def Args.par (A : Args) : Par where
  W1 o i j := (A.w1 (ix3 o i j)).toReal
  b1 o := (A.b1 (ix1 o)).toReal
  g1 o := (A.g1 (ix1 o)).toReal
  e1 o := (A.e1 (ix1 o)).toReal
  m1 o := (A.m1 (ix1 o)).toReal
  r1 o := rr (A.v1 (ix1 o))
  W2 o i j := (A.w2 (ix3 o i j)).toReal
  b2 o := (A.b2 (ix1 o)).toReal
  g2 o := (A.g2 (ix1 o)).toReal
  e2 o := (A.e2 (ix1 o)).toReal
  m2 o := (A.m2 (ix1 o)).toReal
  r2 o := rr (A.v2 (ix1 o))
  G o h := (A.gw (ix2 o h)).toReal
  src h := (A.src (ix1 h)).toReal
  dst h := (A.dst (ix1 h)).toReal
  sl := slope

/-- The signal of one sample. -/
def Args.sig (A : Args) (b : Fin 128) (i : Fin 17) (n : ℕ) : ℝ := if h : n < 8192 then (A.x (ix3 b i ⟨n, h⟩)).toReal else 0

/-- The frequency bands of one sample, joined. -/
def Args.bands (A : Args) (b : Fin 128) (k : Fin 34) : EReal :=
  if h : k.val < 17 then A.delta (ix2 b ⟨k.val, h⟩) else A.theta (ix2 b ⟨k.val - 17, by omega⟩)

/-- The result: the head over the mean of the attention's features and over the bands. -/
def Args.out (A : Args) (b : Fin 128) (q : Fin 2) : EReal :=
  head (fun h => (gat A.par (A.sig b) h : EReal) * Ideal.ofBits .f32 0x3A000000#32 + A.gb (ix1 h)) (A.bands b)
    (fun j k => A.fw (ix2 j k)) (fun j => A.fb (ix1 j)) (fun q i => A.cw (ix2 q i)) (fun q => A.cb (ix1 q)) q

end Cert.Gat

end
-- ==== Proof.KHost.lean ====
/-
What the launch finds in each window's array: the host's operations on the arguments.
-/
module

public import proofs.«01_k».proof.Proof.KernelIdealRun

@[expose] public section

set_option maxRecDepth 16384
set_option maxHeartbeats 4000000

noncomputable section

namespace Cert.KernelIdeal.Val

open Idealize.ShloMosaic Cert.KernelIdeal.Gen Idealize.ShloMosaic.TcCoe Idealize.ShloMosaic.StableHlo
open Cert.KernelIdeal

variable {F : FTy → Type} [FloatOps F] [Named F]
variable (m : (ℓ : Loc nD τ sig) → Buf (Elt F) ℓ) (c : Dev nD)

/-- The scale of a normalisation over 32 channels. -/
def scale32 (g v : FVec F S32 .f32) : FVec F S32 .f32 :=
  mulf g (Host.rsqrt (addf v (broadcastInDim S32 ![] bcast_S_S32 (constant S_ .f32 0x3727C5AC#32))))
/-- The scale of a normalisation over 64 channels. -/
def scale64 (g v : FVec F S64 .f32) : FVec F S64 .f32 :=
  mulf g (Host.rsqrt (addf v (broadcastInDim S64 ![] bcast_S_S64 (constant S_ .f32 0x3727C5AC#32))))
/-- The signal in four phases. -/
def phases (x : FVec F S128x17x8192 .f32) : FVec F S128x4x17x2048 .bf16 :=
  truncf .bf16 (transpose S128x4x17x2048 [0, 3, 1, 2] (shapeCast S128x17x2048x4 x shapeCasts_S128x17x8192_S128x17x2048x4) transposes_S128x17x2048x4_S128x4x17x2048_0_3_1_2) bitsLt_bf16_f32
/-- The first convolution's weights, scaled, tap by tap, with the shift as the last column. -/
def weights1 (w : FVec F S32x17x5 .f32) (b g e mu v : FVec F S32 .f32) : FVec F S32x86 .bf16 :=
  truncf .bf16 (concatenate S32x86 1 [⟨S32x85, mulf (shapeCast S32x85 (transpose S32x5x17 [0, 2, 1] w transposes_S32x17x5_S32x5x17_0_2_1) shapeCasts_S32x5x17_S32x85)
      (broadcastInDim S32x85 ![0, 1] bcast_S32x1_S32x85_0_1 (broadcastInDim S32x1 ![0] bcast_S32_S32x1_0 (scale32 g v)))⟩,
    ⟨S32x1, broadcastInDim S32x1 ![0] bcast_S32_S32x1_0 (addf (mulf (subf b mu) (scale32 g v)) e)⟩] concatenates_S32x85_S32x1_S32x86_d1) bitsLt_bf16_f32
/-- The second convolution's weights, the same way. -/
def weights2 (w : FVec F S64x32x5 .f32) (b g e mu v : FVec F S64 .f32) : FVec F S64x161 .bf16 :=
  truncf .bf16 (concatenate S64x161 1 [⟨S64x160, mulf (shapeCast S64x160 (transpose S64x5x32 [0, 2, 1] w transposes_S64x32x5_S64x5x32_0_2_1) shapeCasts_S64x5x32_S64x160)
      (broadcastInDim S64x160 ![0, 1] bcast_S64x1_S64x160_0_1 (broadcastInDim S64x1 ![0] bcast_S64_S64x1_0 (scale64 g v)))⟩,
    ⟨S64x1, broadcastInDim S64x1 ![0] bcast_S64_S64x1_0 (addf (mulf (subf b mu) (scale64 g v)) e)⟩] concatenates_S64x160_S64x1_S64x161_d1) bitsLt_bf16_f32
/-- The attention's weights, with the two score rows. -/
def graphWeights (g : FVec F S64x16 .f32) (s d : FVec F S16 .f32) : FVec F S18x64 .bf16 :=
  truncf .bf16 (concatenate S18x64 0 [⟨S16x64, transpose S16x64 [1, 0] g transposes_S64x16_S16x64_1_0⟩,
    ⟨S1x64, broadcastInDim S1x64 ![1] bcast_S64_S1x64_1 (Host.dotGeneral dot_S64x16_S16_S64_1_0_0_n_n_n none g s)⟩,
    ⟨S1x64, broadcastInDim S1x64 ![1] bcast_S64_S1x64_1 (Host.dotGeneral dot_S64x16_S16_S64_1_0_0_n_n_n none g d)⟩] concatenates_S16x64_S1x64_S1x64_S18x64_d0) bitsLt_bf16_f32
/-- The two frequency bands of each sample, joined. -/
def bands (a b : FVec F S128x17 .f32) : FVec F S128x1x34 .f32 :=
  broadcastInDim S128x1x34 ![0, 2] bcast_S128x34_S128x1x34_0_2 (concatenate S128x34 1 [⟨S128x17, a⟩, ⟨S128x17, b⟩] concatenates_S128x17_S128x17_S128x34_d1)

/-- The arrays the launch reads, each a function of the arguments. -/
theorem V_arrays :
    V m c main_call0_v2 = phases (m ((c : Thread nD τ).loc main_arg0))
    ∧ V m c main_call0_v38 = bands (m ((c : Thread nD τ).loc main_arg1)) (m ((c : Thread nD τ).loc main_arg2))
    ∧ V m c main_call0_v39 = weights1 (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
    ∧ V m c main_call0_v40 = weights2 (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
    ∧ V m c main_call0_v41 = graphWeights (m ((c : Thread nD τ).loc main_arg15)) (m ((c : Thread nD τ).loc main_arg16)) (m ((c : Thread nD τ).loc main_arg17))
    ∧ V m c main_call0_v42 = broadcastInDim S1x16 ![1] bcast_S16_S1x16_1 (m ((c : Thread nD τ).loc main_arg18))
    ∧ V m c main_call0_v43 = transpose S34x34 [1, 0] (m ((c : Thread nD τ).loc main_arg19)) transposes_S34x34_S34x34_1_0
    ∧ V m c main_call0_v44 = broadcastInDim S1x34 ![1] bcast_S34_S1x34_1 (m ((c : Thread nD τ).loc main_arg20))
    ∧ V m c main_call0_v45 = transpose S50x2 [1, 0] (m ((c : Thread nD τ).loc main_arg21)) transposes_S2x50_S50x2_1_0
    ∧ V m c main_call0_v46 = broadcastInDim S1x2 ![1] bcast_S2_S1x2_1 (m ((c : Thread nD τ).loc main_arg22)) := by
  unfold V V0
  simp only [List.flatten_cons, List.flatten_nil, List.append_nil, hostOps0, TRef.binary, TRef.nullary, TRef.unary, TRef.toBuf, TRef.ofBuf, cast_eq]
  refine ⟨?_, ?_, ?_, ?_, ?_, ?_, ?_, ?_, ?_, ?_⟩ <;> after_results_simp <;> rfl

end Cert.KernelIdeal.Val

end
-- ==== Proof.KEntry.lean ====
/-
The arrays the launch reads, entry by entry.
-/
module

public import proofs.«01_k».proof.Proof.KHost
public import Idealize.ShloMosaic.Lib.Pointwise

@[expose] public section

set_option maxRecDepth 16384

noncomputable section

namespace Cert.KernelIdeal.Val

open Idealize.ShloMosaic Cert.KernelIdeal.Gen
open Cert.KernelIdeal
open scoped BigOperators

theorem scale32_at (g v : FVec Ideal S32 .f32) (o : Fin 32) : scale32 g v (ix1 o) = g (ix1 o) * Ideal.rsqrt (v (ix1 o) + Ideal.ofBits .f32 0x3727C5AC#32) := by
  pointwise [scale32]

theorem scale64_at (g v : FVec Ideal S64 .f32) (o : Fin 64) : scale64 g v (ix1 o) = g (ix1 o) * Ideal.rsqrt (v (ix1 o) + Ideal.ofBits .f32 0x3727C5AC#32) := by
  pointwise [scale64]

theorem phases_at (x : FVec Ideal S128x17x8192 .f32) (b : Fin 128) (r : Fin 4) (i : Fin 17) (n : Fin 2048) :
    phases x (ix4 b r i n) = x (ix3 b i ⟨4 * n.val + r.val, by omega⟩) := by
  pointwise [phases]
  exact congrArg x (congrArg (ix3 b i) (Fin.ext (by show n.val * 4 + r.val = 4 * n.val + r.val; omega)))

theorem bands_at (a b : FVec Ideal S128x17 .f32) (s : Fin 128) (k : Fin 34) :
    bands a b (ix3 s 0 k) = if h : k.val < 17 then a (ix2 s ⟨k.val, h⟩) else b (ix2 s ⟨k.val - 17, by omega⟩) := by
  pointwise [bands]

theorem weights1_at (w : FVec Ideal S32x17x5 .f32) (b g e mu v : FVec Ideal S32 .f32) (o : Fin 32) (j : Fin 5) (i : Fin 17) :
    weights1 w b g e mu v (ix2 o ⟨17 * j.val + i.val, by omega⟩) = w (ix3 o i j) * scale32 g v (ix1 o) := by
  have h : 17 * j.val + i.val < 85 := by omega
  pointwise [weights1]
  rw [dif_pos h]

theorem shift1_at (w : FVec Ideal S32x17x5 .f32) (b g e mu v : FVec Ideal S32 .f32) (o : Fin 32) :
    weights1 w b g e mu v (ix2 o 85) = (b (ix1 o) - mu (ix1 o)) * scale32 g v (ix1 o) + e (ix1 o) := by
  pointwise [weights1]

theorem weights2_at (w : FVec Ideal S64x32x5 .f32) (b g e mu v : FVec Ideal S64 .f32) (o : Fin 64) (j : Fin 5) (i : Fin 32) :
    weights2 w b g e mu v (ix2 o ⟨32 * j.val + i.val, by omega⟩) = w (ix3 o i j) * scale64 g v (ix1 o) := by
  have h : 32 * j.val + i.val < 160 := by omega
  pointwise [weights2]
  rw [dif_pos h]

theorem shift2_at (w : FVec Ideal S64x32x5 .f32) (b g e mu v : FVec Ideal S64 .f32) (o : Fin 64) :
    weights2 w b g e mu v (ix2 o 160) = (b (ix1 o) - mu (ix1 o)) * scale64 g v (ix1 o) + e (ix1 o) := by
  pointwise [weights2]

theorem graph_at (g : FVec Ideal S64x16 .f32) (s d : FVec Ideal S16 .f32) (h : Fin 16) (o : Fin 64) :
    graphWeights g s d (ix2 ⟨h.val, by omega⟩ o) = g (ix2 o h) := by
  have hh : h.val < 16 := h.isLt
  pointwise [graphWeights]

theorem graph_src (g : FVec Ideal S64x16 .f32) (s d : FVec Ideal S16 .f32) (o : Fin 64) :
    graphWeights g s d (ix2 16 o) = ∑ h : Fin 16, g (ix2 o h) * s (ix1 h) := by
  pointwise [graphWeights]

theorem graph_dst (g : FVec Ideal S64x16 .f32) (s d : FVec Ideal S16 .f32) (o : Fin 64) :
    graphWeights g s d (ix2 17 o) = ∑ h : Fin 16, g (ix2 o h) * d (ix1 h) := by
  pointwise [graphWeights]

end Cert.KernelIdeal.Val

end
-- ==== Proof.KConv.lean ====
/-
The kernel's two convolution blocks, read at an index: what each payload is of the entries of the blocks it loads.
-/
module

public import proofs.«01_k».proof.Proof.Gen.KernelIdeal
public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Val

open Idealize.ShloMosaic Cert.KernelIdeal.Gen Cert.Gat
open Cert.KernelIdeal Cert.KernelIdeal.Facts₀ Cert.KernelIdeal.Facts
open scoped BigOperators

theorem conv1_apply (W : FVec Ideal S32x86 .bf16) (A : Fin 5 → FVec Ideal S17x2048 .bf16) (O : FVec Ideal S1x2048 .bf16) (hc)
    (o : Fin 32) (n : Fin 2048) :
    matmul dot_S32x86_S86x2048_S32x2048_1_0_0_1_n_n none W
      (concatenate S86x2048 0 [⟨S17x2048, A 0⟩, ⟨S17x2048, A 1⟩, ⟨S17x2048, A 2⟩, ⟨S17x2048, A 3⟩, ⟨S17x2048, A 4⟩, ⟨S1x2048, O⟩] hc)
      (constant S32x2048 .f32 0x00000000#32) (ix2 o n)
      = (∑ j : Fin 5, ∑ i : Fin 17, W (ix2 o ⟨17 * j + i, by omega⟩) * A j (ix2 i n)) + W (ix2 o 85) * O (ix2 0 n) := by
  pointwise
  rw [sum_groups 17]
  refine congrArg₂ (· + ·) (Finset.sum_congr rfl fun j _ => Finset.sum_congr rfl fun i _ => ?_) ?_
  · have := i.isLt
    fin_vals j with hj
    all_goals
      dsimp only
      first
      | rw [dif_pos (by omega)]
      | rw [dif_neg (by omega), dif_pos (by omega)]
      | rw [dif_neg (by omega), dif_neg (by omega), dif_pos (by omega)]
      | rw [dif_neg (by omega), dif_neg (by omega), dif_neg (by omega), dif_pos (by omega)]
      | rw [dif_neg (by omega), dif_neg (by omega), dif_neg (by omega), dif_neg (by omega), dif_pos (by omega)]
      congr 1
      exact congrArg₂ (fun a b => A a (ix2 b n)) (Fin.ext hj.symm) (Fin.ext (by dsimp only; omega))
  · rfl

theorem conv2_apply (W : FVec Ideal S64x161 .bf16) (A : Fin 5 → FVec Ideal S32x2048 .bf16) (O : FVec Ideal S1x2048 .bf16) (hc)
    (o : Fin 64) (n : Fin 2048) :
    matmul dot_S64x161_S161x2048_S64x2048_1_0_0_1_n_n none W
      (concatenate S161x2048 0 [⟨S32x2048, A 0⟩, ⟨S32x2048, A 1⟩, ⟨S32x2048, A 2⟩, ⟨S32x2048, A 3⟩, ⟨S32x2048, A 4⟩, ⟨S1x2048, O⟩] hc)
      (constant S64x2048 .f32 0x00000000#32) (ix2 o n)
      = (∑ j : Fin 5, ∑ i : Fin 32, W (ix2 o ⟨32 * j + i, by omega⟩) * A j (ix2 i n)) + W (ix2 o 160) * O (ix2 0 n) := by
  pointwise
  rw [sum_groups 32]
  refine congrArg₂ (· + ·) (Finset.sum_congr rfl fun j _ => Finset.sum_congr rfl fun i _ => ?_) ?_
  · have := i.isLt
    fin_vals j with hj
    all_goals
      dsimp only
      first
      | rw [dif_pos (by omega)]
      | rw [dif_neg (by omega), dif_pos (by omega)]
      | rw [dif_neg (by omega), dif_neg (by omega), dif_pos (by omega)]
      | rw [dif_neg (by omega), dif_neg (by omega), dif_neg (by omega), dif_pos (by omega)]
      | rw [dif_neg (by omega), dif_neg (by omega), dif_neg (by omega), dif_neg (by omega), dif_pos (by omega)]
      congr 1
      exact congrArg₂ (fun a b => A a (ix2 b n)) (Fin.ext hj.symm) (Fin.ext (by dsimp only; omega))
  · rfl

/-- The first block's contraction over one phase's rows is the convolution with the batch norm folded in. -/
theorem conv1_val (W : FVec Ideal S32x86 .bf16) (A : Fin 5 → FVec Ideal S17x2048 .bf16) (O : FVec Ideal S1x2048 .bf16) (hc)
    (w : Fin 32 → Fin 17 → Fin 5 → ℝ) (sc sh : Fin 32 → ℝ) (hp : Fin 17 → ℕ → ℝ) (τ : ℕ) (o : Fin 32) (n : Fin 2048)
    (hW : ∀ j i, W (ix2 o ⟨17 * j.val + i.val, by omega⟩) = ((w o i j * sc o : ℝ) : EReal)) (hS : W (ix2 o 85) = (sh o : EReal))
    (hA : ∀ j i, A j (ix2 i n) = (hp i (τ + j.val) : EReal)) (hO : O (ix2 0 n) = 1) :
    max (matmul dot_S32x86_S86x2048_S32x2048_1_0_0_1_n_n none W
      (concatenate S86x2048 0 [⟨S17x2048, A 0⟩, ⟨S17x2048, A 1⟩, ⟨S17x2048, A 2⟩, ⟨S17x2048, A 3⟩, ⟨S17x2048, A 4⟩, ⟨S1x2048, O⟩] hc)
      (constant S32x2048 .f32 0x00000000#32) (ix2 o n)) (Ideal.ofBits .f32 0x00000000#32) = (act (w o) (sc o) (sh o) hp τ : EReal) := by
  rw [conv1_apply, hS, hO, mul_one, Ideal.ofBits_zero_f32]
  unfold act
  rw [coe_max, EReal.coe_add, coe_sum, EReal.coe_zero]
  refine congrArg₂ max (congrArg₂ (· + ·) (Finset.sum_congr rfl fun j _ => ?_) rfl) rfl
  rw [coe_sum]
  refine Finset.sum_congr rfl fun i _ => ?_
  rw [hW, hA, ← EReal.coe_mul]

/-- The second block's contraction over one phase's rows is the convolution with the batch norm folded in. -/
theorem conv2_val (W : FVec Ideal S64x161 .bf16) (A : Fin 5 → FVec Ideal S32x2048 .bf16) (O : FVec Ideal S1x2048 .bf16) (hc)
    (w : Fin 64 → Fin 32 → Fin 5 → ℝ) (sc sh : Fin 64 → ℝ) (hp : Fin 32 → ℕ → ℝ) (τ : ℕ) (o : Fin 64) (n : Fin 2048)
    (hW : ∀ j i, W (ix2 o ⟨32 * j.val + i.val, by omega⟩) = ((w o i j * sc o : ℝ) : EReal)) (hS : W (ix2 o 160) = (sh o : EReal))
    (hA : ∀ j i, A j (ix2 i n) = (hp i (τ + j.val) : EReal)) (hO : O (ix2 0 n) = 1) :
    max (matmul dot_S64x161_S161x2048_S64x2048_1_0_0_1_n_n none W
      (concatenate S161x2048 0 [⟨S32x2048, A 0⟩, ⟨S32x2048, A 1⟩, ⟨S32x2048, A 2⟩, ⟨S32x2048, A 3⟩, ⟨S32x2048, A 4⟩, ⟨S1x2048, O⟩] hc)
      (constant S64x2048 .f32 0x00000000#32) (ix2 o n)) (Ideal.ofBits .f32 0x00000000#32) = (act (w o) (sc o) (sh o) hp τ : EReal) := by
  rw [conv2_apply, hS, hO, mul_one, Ideal.ofBits_zero_f32]
  unfold act
  rw [coe_max, EReal.coe_add, coe_sum, EReal.coe_zero]
  refine congrArg₂ max (congrArg₂ (· + ·) (Finset.sum_congr rfl fun j _ => ?_) rfl) rfl
  rw [coe_sum]
  refine Finset.sum_congr rfl fun i _ => ?_
  rw [hW, hA, ← EReal.coe_mul]

/-- The row one step earlier in time, zero at the start. -/
theorem shL17 (A : FVec Ideal S17x2048 .bf16) (hs) (hc) (f : Fin 17 → ℕ → ℝ) (hA : ∀ i n, A (ix2 i n) = (f i (n.val + 1) : EReal))
    (h0 : ∀ i, f i 0 = 0) (i : Fin 17) (n : Fin 2048) :
    concatenate S17x2048 1 [⟨S17x1, broadcast S17x1 (Scalar.ofBits (F := Ideal) .bf16 0x0000#16)⟩, ⟨S17x2047, extractStridedSlice S17x2047 ![0, 0] A hs⟩] hc (ix2 i n)
      = (f i n.val : EReal) := by
  pointwise
  split
  · rename_i h
    rw [show n.val = 0 by omega, h0]; rfl
  · rename_i h
    rw [hA]
    have : n.val - 1 + 1 = n.val := by omega
    simp only [this]

/-- The row one step later in time, zero at the end. -/
theorem shR17 (A : FVec Ideal S17x2048 .bf16) (hs) (hc) (f : Fin 17 → ℕ → ℝ) (hA : ∀ i n, A (ix2 i n) = (f i n.val : EReal))
    (h0 : ∀ i, f i 2048 = 0) (i : Fin 17) (n : Fin 2048) :
    concatenate S17x2048 1 [⟨S17x2047, extractStridedSlice S17x2047 ![0, 1] A hs⟩, ⟨S17x1, broadcast S17x1 (Scalar.ofBits (F := Ideal) .bf16 0x0000#16)⟩] hc (ix2 i n)
      = (f i (n.val + 1) : EReal) := by
  pointwise
  split
  · rw [hA]
    simp only [Nat.add_comm]
  · rename_i h
    have := n.isLt
    rw [show n.val + 1 = 2048 by omega, h0]; rfl

/-- The row one step earlier in time, zero at the start. -/
theorem shL32 (A : FVec Ideal S32x2048 .bf16) (hs) (hc) (f : Fin 32 → ℕ → ℝ) (hA : ∀ i n, A (ix2 i n) = (f i (n.val + 1) : EReal))
    (h0 : ∀ i, f i 0 = 0) (i : Fin 32) (n : Fin 2048) :
    concatenate S32x2048 1 [⟨S32x1, broadcast S32x1 (Scalar.ofBits (F := Ideal) .bf16 0x0000#16)⟩, ⟨S32x2047, extractStridedSlice S32x2047 ![0, 0] A hs⟩] hc (ix2 i n)
      = (f i n.val : EReal) := by
  pointwise
  split
  · rename_i h
    rw [show n.val = 0 by omega, h0]; rfl
  · rename_i h
    rw [hA]
    have : n.val - 1 + 1 = n.val := by omega
    simp only [this]

/-- The row one step later in time, zero at the end. -/
theorem shR32 (A : FVec Ideal S32x2048 .bf16) (hs) (hc) (f : Fin 32 → ℕ → ℝ) (hA : ∀ i n, A (ix2 i n) = (f i n.val : EReal))
    (h0 : ∀ i, f i 2048 = 0) (i : Fin 32) (n : Fin 2048) :
    concatenate S32x2048 1 [⟨S32x2047, extractStridedSlice S32x2047 ![0, 1] A hs⟩, ⟨S32x1, broadcast S32x1 (Scalar.ofBits (F := Ideal) .bf16 0x0000#16)⟩] hc (ix2 i n)
      = (f i (n.val + 1) : EReal) := by
  pointwise
  split
  · rw [hA]
    simp only [Nat.add_comm]
  · rename_i h
    have := n.isLt
    rw [show n.val + 1 = 2048 by omega, h0]; rfl
end Cert.KernelIdeal.Val

end
-- ==== Proof.KBlock.lean ====
/-
The kernel's two convolution blocks on one sample: every array of its two blocks holds the real numbers of the
specification.
-/
module

public import proofs.«01_k».proof.Proof.KConv
public import proofs.«01_k».proof.Proof.KernelIdealRun

@[expose] public section

set_option maxRecDepth 16384

noncomputable section

namespace Cert.KernelIdeal.Val

open Idealize.ShloMosaic Cert.KernelIdeal.Gen Cert.Gat
open Cert.KernelIdeal
open scoped BigOperators

variable (P : Par) (X : Fin 17 → ℕ → ℝ)
variable (x0 : Vec Ideal S1x4x17x2048 .bf16) (x2 : Vec Ideal S32x86 .bf16) (x3 : Vec Ideal S64x161 .bf16)

/-- The sample's signal, split into its four time phases. -/
def SigIn : Prop := ∀ (r : Fin 4) (i : Fin 17) (n : Fin 2048), x0 (ix4 0 r i n) = (X i (4 * n.val + r.val) : EReal)
/-- The first block's weights, scaled, with the shift in the last column. -/
def W1In : Prop := (∀ (o : Fin 32) (j : Fin 5) (i : Fin 17), x2 (ix2 o ⟨17 * j.val + i.val, by omega⟩) = ((P.W1 o i j * P.s1 o : ℝ) : EReal))
  ∧ ∀ o : Fin 32, x2 (ix2 o 85) = (P.t1 o : EReal)
/-- The second block's. -/
def W2In : Prop := (∀ (o : Fin 64) (j : Fin 5) (i : Fin 32), x3 (ix2 o ⟨32 * j.val + i.val, by omega⟩) = ((P.W2 o i j * P.s2 o : ℝ) : EReal))
  ∧ ∀ o : Fin 64, x3 (ix2 o 160) = (P.t2 o : EReal)

variable {P X x0 x2 x3}

theorem ld4 : View.ld x2 r0_4 = x2 := View.ld_unit_zero (off := ![0, 0]) (by funext a; fin_cases a <;> rfl) _ x2
theorem ld5 : View.ld x3 r0_5 = x3 := View.ld_unit_zero (off := ![0, 0]) (by funext a; fin_cases a <;> rfl) _ x3
theorem cast2 (h) : shapeCast S32x86 x2 h = x2 := by funext j; idx_vars j; pointwise
theorem cast3 (h) : shapeCast S64x161 x3 h = x3 := by funext j; idx_vars j; pointwise

theorem ones_apply (n : Fin 2048) : (k0_pay2 : FVec Ideal S1x2048 .bf16) (ix2 0 n) = 1 := by
  pointwise [k0_pay2]

section
variable (hx : SigIn X x0)
include hx

theorem ph0 (i : Fin 17) (n : Fin 2048) : k0_pay3 (View.ld x0 r0_0) (ix2 i n) = (xp X i (4 * n.val + 2) : EReal) := by
  pointwise [k0_pay3]
  have h := hx 0 i n
  have := n.isLt
  rw [show xp X i (4 * n.val + 2) = X i (4 * n.val + 0) from pad2_mid _ _ _ _ (by omega) (by omega)]
  exact h

theorem ph1 (i : Fin 17) (n : Fin 2048) : k0_pay4 (View.ld x0 r0_1) (ix2 i n) = (xp X i (4 * n.val + 3) : EReal) := by
  pointwise [k0_pay4]
  have h := hx 1 i n
  have := n.isLt
  rw [show xp X i (4 * n.val + 3) = X i (4 * n.val + 1) from pad2_mid _ _ _ _ (by omega) (by omega)]
  exact h

theorem ph2 (i : Fin 17) (n : Fin 2048) : k0_pay5 (View.ld x0 r0_2) (ix2 i n) = (xp X i (4 * n.val + 4) : EReal) := by
  pointwise [k0_pay5]
  have h := hx 2 i n
  have := n.isLt
  rw [show xp X i (4 * n.val + 4) = X i (4 * n.val + 2) from pad2_mid _ _ _ _ (by omega) (by omega)]
  exact h

theorem ph3 (i : Fin 17) (n : Fin 2048) : k0_pay6 (View.ld x0 r0_3) (ix2 i n) = (xp X i (4 * n.val + 5) : EReal) := by
  pointwise [k0_pay6]
  have h := hx 3 i n
  have := n.isLt
  rw [show xp X i (4 * n.val + 5) = X i (4 * n.val + 3) from pad2_mid _ _ _ _ (by omega) (by omega)]
  exact h

theorem ph3L (i : Fin 17) (n : Fin 2048) : k0_pay9 (View.ld x0 r0_3) (ix2 i n) = (xp X i (4 * n.val + 1) : EReal) :=
  shL17 _ Gen.slices_S17x2048_o0_0_S17x2047 Gen.concatenates_S17x1_S17x2047_S17x2048_d1 (fun i n => xp X i (4 * n + 1)) (ph3 hx) (fun i => pad2_lo _ _ _ (by omega)) i n
theorem ph0R (i : Fin 17) (n : Fin 2048) : k0_pay7 (View.ld x0 r0_0) (ix2 i n) = (xp X i (4 * n.val + 6) : EReal) :=
  shR17 _ Gen.slices_S17x2048_o0_1_S17x2047 Gen.concatenates_S17x2047_S17x1_S17x2048_d1 (fun i n => xp X i (4 * n + 2)) (ph0 hx) (fun i => pad2_hi _ _ _ (by omega)) i n
theorem ph1R (i : Fin 17) (n : Fin 2048) : k0_pay8 (View.ld x0 r0_1) (ix2 i n) = (xp X i (4 * n.val + 7) : EReal) :=
  shR17 _ Gen.slices_S17x2048_o0_1_S17x2047 Gen.concatenates_S17x2047_S17x1_S17x2048_d1 (fun i n => xp X i (4 * n + 3)) (ph1 hx) (fun i => pad2_hi _ _ _ (by omega)) i n

variable (hW : W1In P x2)
include hW

theorem act0_val (o : Fin 32) (n : Fin 2048) : act0 x0 x2 (ix2 o n) = (c1 P X o (4 * n.val) : EReal) := by
  unfold act0 k0_pay10
  rw [ld4, cast2]
  refine conv1_val _ ![_, _, _, _, _] _ _ P.W1 P.s1 P.t1 (xp X) (4 * n.val) o n (hW.1 o) (hW.2 o) (fun j i => ?_) (ones_apply n)
  fin_cases j
  · exact shL17 _ Gen.slices_S17x2048_o0_0_S17x2047 Gen.concatenates_S17x1_S17x2047_S17x2048_d1 (fun i n => xp X i (4 * n)) (ph2 hx) (fun i => pad2_lo _ _ _ (by omega)) i n
  · exact ph3L hx i n
  · exact ph0 hx i n
  · exact ph1 hx i n
  · exact ph2 hx i n

theorem qsig0_val (o : Fin 32) (n : Fin 2048) : k0_pay12 (act0 x0 x2) (pre1 x0 x2) (ix2 o n) = (hp P X o (2 * n.val + 2) : EReal) := by
  have := n.isLt
  rw [show hp P X o (2 * n.val + 2) = h1 P X o (2 * n.val) from pad2_mid _ _ _ _ rfl (by omega)]
  unfold h1
  rw [show 2 * (2 * n.val) = 4 * n.val by omega, coe_max]
  refine congrArg₂ max (act0_val hx hW o n) ?_
  unfold pre1 k0_pay11
  rw [ld4, cast2]
  refine conv1_val _ ![_, _, _, _, _] _ _ P.W1 P.s1 P.t1 (xp X) (4 * n.val + 1) o n (hW.1 o) (hW.2 o) (fun j i => ?_) (ones_apply n)
  fin_cases j
  · exact ph3L hx i n
  · exact ph0 hx i n
  · exact ph1 hx i n
  · exact ph2 hx i n
  · exact ph3 hx i n

theorem qsig1_val (o : Fin 32) (n : Fin 2048) :
    k0_pay13 k0_pay2 (k0_pay3 (View.ld x0 r0_0)) (k0_pay4 (View.ld x0 r0_1)) (k0_pay5 (View.ld x0 r0_2)) (k0_pay6 (View.ld x0 r0_3))
      (k0_pay7 (View.ld x0 r0_0)) (k0_pay8 (View.ld x0 r0_1)) x2 x2 (ix2 o n) = (hp P X o (2 * n.val + 3) : EReal) := by
  have := n.isLt
  rw [show hp P X o (2 * n.val + 3) = h1 P X o (2 * n.val + 1) from pad2_mid _ _ _ _ rfl (by omega)]
  unfold h1
  rw [show 2 * (2 * n.val + 1) = 4 * n.val + 2 by omega, coe_max]
  unfold k0_pay13
  rw [cast2]
  refine congrArg₂ max ?_ ?_
  · refine conv1_val _ ![_, _, _, _, _] _ _ P.W1 P.s1 P.t1 (xp X) (4 * n.val + 2) o n (hW.1 o) (hW.2 o) (fun j i => ?_) (ones_apply n)
    fin_cases j
    · exact ph0 hx i n
    · exact ph1 hx i n
    · exact ph2 hx i n
    · exact ph3 hx i n
    · exact ph0R hx i n
  · refine conv1_val _ ![_, _, _, _, _] _ _ P.W1 P.s1 P.t1 (xp X) (4 * n.val + 3) o n (hW.1 o) (hW.2 o) (fun j i => ?_) (ones_apply n)
    fin_cases j
    · exact ph1 hx i n
    · exact ph2 hx i n
    · exact ph3 hx i n
    · exact ph0R hx i n
    · exact ph1R hx i n

theorem qsig1L (o : Fin 32) (n : Fin 2048) :
    k0_pay15 k0_pay2 (k0_pay3 (View.ld x0 r0_0)) (k0_pay4 (View.ld x0 r0_1)) (k0_pay5 (View.ld x0 r0_2)) (k0_pay6 (View.ld x0 r0_3))
      (k0_pay7 (View.ld x0 r0_0)) (k0_pay8 (View.ld x0 r0_1)) x2 x2 (ix2 o n) = (hp P X o (2 * n.val + 1) : EReal) :=
  shL32 _ Gen.slices_S32x2048_o0_0_S32x2047 Gen.concatenates_S32x1_S32x2047_S32x2048_d1 (fun o n => hp P X o (2 * n + 1)) (qsig1_val hx hW) (fun i => pad2_lo _ _ _ (by omega)) o n
theorem qsig0R (o : Fin 32) (n : Fin 2048) : k0_pay14 (act0 x0 x2) (pre1 x0 x2) (ix2 o n) = (hp P X o (2 * n.val + 4) : EReal) :=
  shR32 _ Gen.slices_S32x2048_o0_1_S32x2047 Gen.concatenates_S32x2047_S32x1_S32x2048_d1 (fun o n => hp P X o (2 * n + 2)) (qsig0_val hx hW) (fun i => pad2_hi _ _ _ (by omega)) o n

variable (hV : W2In P x3)
include hV

theorem node0_val (o : Fin 64) (n : Fin 2048) : node0 x0 x2 x3 (ix2 o n) = (c2 P X o (2 * n.val) : EReal) := by
  unfold node0 k0_pay16
  rw [ld4, ld5, cast3]
  refine conv2_val _ ![_, _, _, _, _] _ _ P.W2 P.s2 P.t2 (hp P X) (2 * n.val) o n (hV.1 o) (hV.2 o) (fun j i => ?_) (ones_apply n)
  fin_cases j
  · exact shL32 _ Gen.slices_S32x2048_o0_0_S32x2047 Gen.concatenates_S32x1_S32x2047_S32x2048_d1 (fun o n => hp P X o (2 * n)) (qsig0_val hx hW) (fun i => pad2_lo _ _ _ (by omega)) i n
  · exact qsig1L hx hW i n
  · exact qsig0_val hx hW i n
  · exact qsig1_val hx hW i n
  · exact qsig0R hx hW i n

theorem node1_val (o : Fin 64) (n : Fin 2048) :
    max (node1 x0 x2 x3 (ix2 o n)) (Ideal.ofBits .f32 0x00000000#32) = (c2 P X o (2 * n.val + 1) : EReal) := by
  unfold node1 k0_pay17
  rw [ld4, ld5, cast3]
  refine conv2_val _ ![_, _, _, _, _] _ _ P.W2 P.s2 P.t2 (hp P X) (2 * n.val + 1) o n (hV.1 o) (hV.2 o) (fun j i => ?_) (ones_apply n)
  fin_cases j
  · exact qsig1L hx hW i n
  · exact qsig0_val hx hW i n
  · exact qsig1_val hx hW i n
  · exact qsig0R hx hW i n
  · exact shR32 _ Gen.slices_S32x2048_o0_1_S32x2047 Gen.concatenates_S32x2047_S32x1_S32x2048_d1 (fun o n => hp P X o (2 * n + 3)) (qsig1_val hx hW) (fun i => pad2_hi _ _ _ (by omega)) i n
end

end Cert.KernelIdeal.Val

end
-- ==== Proof.KAttn.lean ====
/-
The kernel's attention on one sample: its rows hold the real numbers of the specification.
-/
module

public import proofs.«01_k».proof.Proof.Gen.KernelIdeal
public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Val

open Idealize.ShloMosaic Cert.KernelIdeal.Gen Cert.Gat
open Cert.KernelIdeal
open scoped BigOperators

variable (P : Par) (X : Fin 17 → ℕ → ℝ)
variable (n0 n1 : FVec Ideal S64x2048 .f32) (wg : Vec Ideal S18x64 .bf16)

/-- The nodes, in two halves, the second before its relu. -/
def NodesIn : Prop := ∀ (o : Fin 64) (n : Fin 2048), n0 (ix2 o n) = (c2 P X o (2 * n.val) : EReal)
  ∧ max (n1 (ix2 o n)) (Ideal.ofBits .f32 0x00000000#32) = (c2 P X o (2 * n.val + 1) : EReal)
/-- The attention's weights, with the two score rows. -/
def WgIn : Prop := (∀ (h : Fin 16) (o : Fin 64), wg (ix2 ⟨h.val, by omega⟩ o) = (P.G o h : EReal))
  ∧ (∀ o : Fin 64, wg (ix2 16 o) = ((∑ h, P.G o h * P.src h : ℝ) : EReal))
  ∧ ∀ o : Fin 64, wg (ix2 17 o) = ((∑ h, P.G o h * P.dst h : ℝ) : EReal)
/-- The slope of the leaky relu. -/
def SlopeIn : Prop := Ideal.ofBits .f32 0x3E4CCCCD#32 = (P.sl : EReal) ∧ 0 < P.sl

variable {P X n0 n1 wg}

section
variable (hn : NodesIn P X n0 n1) (hg : WgIn P wg)
include hn

theorem wxe_row (r : Fin 18) (n : Fin 2048) (f : Fin 64 → ℝ) (hf : ∀ o, wg (ix2 r o) = (f o : EReal)) :
    k0_pay18 n0 n1 wg (ix2 r n) = ((∑ o, f o * nodes P X o n.val : ℝ) : EReal) := by
  pointwise [k0_pay18]
  rw [coe_sum]
  refine Finset.sum_congr rfl fun o _ => ?_
  rw [hf, EReal.coe_mul]
  have := (hn o n).2
  rw [Ideal.ofBits_zero_f32] at this
  rw [this, (hn o n).1, ← coe_max]
  rfl

include hg

theorem wxe_val (h : Fin 16) (n : Fin 2048) : k0_pay18 n0 n1 wg (ix2 ⟨h.val, by omega⟩ n) = (wx P X h n.val : EReal) := by
  rw [wxe_row hn _ n (fun o => P.G o h) (fun o => hg.1 h o)]
  unfold wx
  simp only [mul_comm]

omit hn hg in
theorem score_sum (v : Fin 16 → ℝ) (n : ℕ) :
    ∑ o, (∑ h, P.G o h * v h) * nodes P X o n = ∑ h, wx P X h n * v h := by
  unfold wx
  simp only [Finset.sum_mul]
  rw [Finset.sum_comm]
  exact Finset.sum_congr rfl fun h _ => Finset.sum_congr rfl fun o _ => by ring

theorem src_val (n : Fin 2048) : k0_pay19 n0 n1 wg (ix2 0 n) = (esrc P X n.val : EReal) := by
  unfold k0_pay19
  pointwise
  rw [wxe_row hn 16 n _ hg.2.1, score_sum]; rfl

theorem dst_val (n : Fin 2048) : k0_pay20 n0 n1 wg (ix2 0 n) = (edst P X n.val : EReal) := by
  unfold k0_pay20
  pointwise
  rw [wxe_row hn 17 n _ hg.2.2, score_sum]; rfl

omit hn hg in
theorem masked (hs : SlopeIn P) (n d : ℕ) (e : EReal) (h : ¬valid n d) :
    max ((Named.named κ "mask" 0xCE6E6B28#32 : Ideal .f32) + e) (Ideal.ofBits .f32 0x3E4CCCCD#32 * ((Named.named κ "mask" 0xCE6E6B28#32 : Ideal .f32) + e)) = lg P X n d := by
  rw [show (Named.named κ "mask" 0xCE6E6B28#32 : Ideal .f32) = ⊥ from rfl, EReal.bot_add, hs.1, EReal.coe_mul_bot_of_pos hs.2, max_self]
  unfold lg; rw [if_neg h]

omit hn hg in
theorem unmasked (hs : SlopeIn P) (n d k : ℕ) (h : valid n d) (hk : k = n + d - 2) :
    max ((esrc P X k : EReal) + (edst P X n : EReal)) (Ideal.ofBits .f32 0x3E4CCCCD#32 * ((esrc P X k : EReal) + (edst P X n : EReal))) = lg P X n d := by
  subst hk
  rw [hs.1, ← EReal.coe_add, ← EReal.coe_mul, ← coe_max]
  unfold lg; rw [if_pos h]; rfl

variable (hs : SlopeIn P)
include hs

theorem l0_val (n : Fin 2048) : k0_pay21 n0 n1 wg (ix2 0 n) = (lg P X n.val 0 : EReal) := by
  have := n.isLt
  unfold k0_pay21
  pointwise
  rw [dst_val hn hg]
  split
  · exact masked hs _ _ _ (by unfold valid; omega)
  · rw [src_val hn hg]; exact unmasked hs _ _ _ (by unfold valid; omega) (by dsimp only; omega)

theorem l1_val (n : Fin 2048) : k0_pay22 n0 n1 wg (ix2 0 n) = (lg P X n.val 1 : EReal) := by
  have := n.isLt
  unfold k0_pay22
  pointwise
  rw [dst_val hn hg]
  split
  · exact masked hs _ _ _ (by unfold valid; omega)
  · rw [src_val hn hg]; exact unmasked hs _ _ _ (by unfold valid; omega) (by dsimp only; omega)

theorem l3_val (n : Fin 2048) : k0_pay24 n0 n1 wg (ix2 0 n) = (lg P X n.val 3 : EReal) := by
  have := n.isLt
  unfold k0_pay24
  pointwise
  rw [dst_val hn hg]
  split
  · rw [src_val hn hg]; exact unmasked hs _ _ _ (by unfold valid; omega) (by dsimp only; omega)
  · exact masked hs _ _ _ (by unfold valid; omega)

theorem l4_val (n : Fin 2048) : k0_pay25 n0 n1 wg (ix2 0 n) = (lg P X n.val 4 : EReal) := by
  have := n.isLt
  unfold k0_pay25
  pointwise
  rw [dst_val hn hg]
  split
  · rw [src_val hn hg]; exact unmasked hs _ _ _ (by unfold valid; omega) (by dsimp only; omega)
  · exact masked hs _ _ _ (by unfold valid; omega)

theorem l2_val (n : Fin 2048) : k0_pay23 n0 n1 wg (ix2 0 n) = (lg P X n.val 2 : EReal) := by
  have := n.isLt
  unfold k0_pay23
  pointwise
  rw [dst_val hn hg, src_val hn hg]
  exact unmasked hs _ _ _ (by unfold valid; omega) (by omega)

theorem mx_val (n : Fin 2048) : k0_pay26 n0 n1 wg (ix2 0 n) = (mx P X n.val : EReal) := by
  unfold k0_pay26
  pointwise
  rw [l0_val hn hg hs, l1_val hn hg hs, l2_val hn hg hs, l3_val hn hg hs, l4_val hn hg hs]; rfl

theorem e0_val (n : Fin 2048) : k0_pay27 n0 n1 wg (ix2 0 n) = (ee P X n.val 0 : EReal) := by
  unfold k0_pay27
  pointwise
  rw [l0_val hn hg hs, mx_val hn hg hs]
  exact exp_lg P X _ _ n.isLt
end

theorem gmean_apply (B : FVec Ideal S1x2048 .bf16) (W : FVec Ideal S18x2048 .bf16) (gb : FVec Ideal S1x16 .f32) (hs) (hc) (h : Fin 16) :
    addf (mulf (extractStridedSlice S1x16 ![0, 0] (matmul dot_S1x2048_S18x2048_S1x18_1_1_0_0_n_n none B W (constant S1x18 .f32 0x00000000#32)) hs)
      (broadcast S1x16 (Scalar.ofBits (F := Ideal) .f32 0x3A000000#32))) (shapeCast S1x16 gb hc) (ix2 0 h)
      = (∑ n, B (ix2 0 n) * W (ix2 ⟨h.val, by omega⟩ n)) * Ideal.ofBits .f32 0x3A000000#32 + gb (ix2 0 h) := by
  pointwise

theorem wt (n d k : ℕ) (hc : d ≤ n + 2 ∧ n + 2 - d < 2048) (hk : k = n + 2 - d) :
    (ee P X k d : EReal) * Ideal.div 1 ((ee P X k 0 : EReal) + (ee P X k 1 : EReal) + (ee P X k 2 : EReal) + (ee P X k 3 : EReal) + (ee P X k 4 : EReal))
      = ((if d ≤ n + 2 ∧ n + 2 - d < 2048 then alpha P X (n + 2 - d) d else 0 : ℝ) : EReal) := by
  rw [if_pos hc]
  subst hk
  exact alpha_coe P X _ hc.2 d

theorem wtR (n d k N : ℕ) (hc : n < N ↔ d ≤ n + 2 ∧ n + 2 - d < 2048) (hk : k = n + 2 - d) :
    (if h : n < N then (ee P X k d : EReal) * Ideal.div 1 ((ee P X k 0 : EReal) + (ee P X k 1 : EReal) + (ee P X k 2 : EReal) + (ee P X k 3 : EReal) + (ee P X k 4 : EReal)) else 0)
      = ((if d ≤ n + 2 ∧ n + 2 - d < 2048 then alpha P X (n + 2 - d) d else 0 : ℝ) : EReal) := by
  split
  · rename_i h
    exact wt n d k (hc.1 h) hk
  · rename_i h
    rw [if_neg (fun hh => h (hc.2 hh))]; rfl

theorem wtL (n d k N : ℕ) (hc : n < N ↔ ¬(d ≤ n + 2 ∧ n + 2 - d < 2048)) (hk : k = n + 2 - d) :
    (if h : n < N then 0 else (ee P X k d : EReal) * Ideal.div 1 ((ee P X k 0 : EReal) + (ee P X k 1 : EReal) + (ee P X k 2 : EReal) + (ee P X k 3 : EReal) + (ee P X k 4 : EReal)))
      = ((if d ≤ n + 2 ∧ n + 2 - d < 2048 then alpha P X (n + 2 - d) d else 0 : ℝ) : EReal) := by
  split
  · rename_i h
    rw [if_neg (hc.1 h)]; rfl
  · rename_i h
    exact wt n d k (by by_contra hh; exact h (hc.2 hh)) hk

/-- The mean row: the total weights against the features, over the number of nodes, and the bias. -/
theorem pay28_row (v77 : FVec Ideal S18x2048 .f32) (v93 v97 v104 v111 v115 v117 : FVec Ideal S1x2048 .f32) (v161 : Vec Ideal S1x16 .f32) (h : Fin 16)
    (h77 : ∀ n : Fin 2048, v77 (ix2 ⟨h.val, by omega⟩ n) = (wx P X h n.val : EReal))
    (h0 : ∀ n : Fin 2048, v117 (ix2 0 n) = (ee P X n.val 0 : EReal))
    (h1 : ∀ n : Fin 2048, Ideal.exp (v93 (ix2 0 n) - v115 (ix2 0 n)) = (ee P X n.val 1 : EReal))
    (h2 : ∀ n : Fin 2048, Ideal.exp (v97 (ix2 0 n) - v115 (ix2 0 n)) = (ee P X n.val 2 : EReal))
    (h3 : ∀ n : Fin 2048, Ideal.exp (v104 (ix2 0 n) - v115 (ix2 0 n)) = (ee P X n.val 3 : EReal))
    (h4 : ∀ n : Fin 2048, Ideal.exp (v111 (ix2 0 n) - v115 (ix2 0 n)) = (ee P X n.val 4 : EReal)) :
    k0_pay28 v77 v93 v97 v104 v111 v115 v117 v161 (ix2 0 h)
      = (gat P X h : EReal) * Ideal.ofBits .f32 0x3A000000#32 + v161 (ix2 0 h) := by
  unfold k0_pay28
  refine (gmean_apply _ _ _ _ _ h).trans ?_
  refine congrArg₂ (· + ·) (congrArg₂ (· * ·) ?_ rfl) rfl
  rw [gat_eq, coe_sum]
  refine Finset.sum_congr rfl fun n _ => ?_
  rw [EReal.coe_mul]
  refine congrArg₂ (· * ·) ?_ (h77 n)
  have hn := n.isLt
  pointwise
  unfold beta
  rw [Fin.sum_univ_five, EReal.coe_add, EReal.coe_add, EReal.coe_add, EReal.coe_add]
  simp only [h0, h1, h2, h3, h4]
  refine congrArg₂ (· + ·) (congrArg₂ (· + ·) (congrArg₂ (· + ·) (congrArg₂ (· + ·) ?_ ?_) ?_) ?_) ?_
  · exact wtR n.val 0 (2 + n.val) 2046 (by omega) (by omega)
  · exact wtR n.val 1 (1 + n.val) 2047 (by omega) (by omega)
  · exact wt n.val 2 n.val (by omega) (by omega)
  · exact wtL n.val 3 (n.val - 1) 1 (by omega) (by omega)
  · exact wtL n.val 4 (n.val - 2) 2 (by omega) (by omega)

/-- The kernel's attention row. -/
theorem attn_val (hn : NodesIn P X n0 n1) (hg : WgIn P wg) (hs : SlopeIn P) (gb : Vec Ideal S1x16 .f32) (h : Fin 16) :
    k0_pay28 (k0_pay18 n0 n1 wg) (k0_pay22 n0 n1 wg) (k0_pay23 n0 n1 wg) (k0_pay24 n0 n1 wg) (k0_pay25 n0 n1 wg)
        (k0_pay26 n0 n1 wg) (k0_pay27 n0 n1 wg) gb (ix2 0 h)
      = (gat P X h : EReal) * Ideal.ofBits .f32 0x3A000000#32 + gb (ix2 0 h) :=
  pay28_row _ _ _ _ _ _ _ gb h (wxe_val hn hg h) (e0_val hn hg hs)
    (fun n => by rw [l1_val hn hg hs, mx_val hn hg hs]; exact exp_lg P X _ _ n.isLt)
    (fun n => by rw [l2_val hn hg hs, mx_val hn hg hs]; exact exp_lg P X _ _ n.isLt)
    (fun n => by rw [l3_val hn hg hs, mx_val hn hg hs]; exact exp_lg P X _ _ n.isLt)
    (fun n => by rw [l4_val hn hg hs, mx_val hn hg hs]; exact exp_lg P X _ _ n.isLt)

end Cert.KernelIdeal.Val

end
-- ==== Proof.KIn.lean ====
/-
The blocks each grid point reads, entry by entry.
-/
module

public import proofs.«01_k».proof.Proof.KHost
public import proofs.«01_k».proof.Proof.KBlock
public import proofs.«01_k».proof.Proof.KAttn
public import Idealize.ShloMosaic.Lib.Pipeline.Value
public import Idealize.ShloMosaic.Lib.Pointwise

@[expose] public section

set_option maxRecDepth 16384

noncomputable section

namespace Cert.KernelIdeal.Val

open Idealize.ShloMosaic Cert.KernelIdeal.Gen Idealize.ShloMosaic.TcCoe Cert.Gat
open Cert.KernelIdeal
open scoped BigOperators

variable (m : (ℓ : Loc nD τ sig) → Buf (Elt Ideal) ℓ) (c : Dev nD)

/-- Where each window stands at a grid point: the first two and the last at the sample, the rest at the start. -/
theorem win_at : ∀ t : Fin grid0.N, (win0_0.index t = ![t.val, 0, 0, 0] ∧ win0_1.index t = ![t.val, 0, 0] ∧ win0_2.index t = ![0, 0] ∧ win0_3.index t = ![0, 0])
    ∧ (win0_4.index t = ![0, 0] ∧ win0_5.index t = ![0, 0] ∧ win0_6.index t = ![0, 0] ∧ win0_7.index t = ![0, 0])
    ∧ (win0_8.index t = ![0, 0] ∧ win0_9.index t = ![0, 0] ∧ win0_10.index t = ![t.val, 0, 0]) := by decide +kernel

theorem iblk0_at (t : Fin 128) (r : Fin 4) (i : Fin 17) (n : Fin 2048) :
    (iblk m c 0 t : Vec Ideal S1x4x17x2048 .bf16) (ix4 0 r i n) = (V m c main_call0_v2 : Vec Ideal S128x4x17x2048 .bf16) (ix4 t r i n) := by
  have hi := (win_at t).1.1
  unfold iblk
  rw [View.read_apply]
  show V m c main_call0_v2 _ = _
  congr 1
  funext a
  apply Fin.ext
  match a with
  | ⟨0, _⟩ => show win0_0.index t 0 * 1 + 1 * 0 = t.val; rw [hi]; simp
  | ⟨1, _⟩ => show win0_0.index t 1 * 4 + 1 * r.val = r.val; rw [hi]; simp
  | ⟨2, _⟩ => show win0_0.index t 2 * 17 + 1 * i.val = i.val; rw [hi]; simp
  | ⟨3, _⟩ => show win0_0.index t 3 * 2048 + 1 * n.val = n.val; rw [hi]; simp

theorem iblk1_at (t : Fin 128) (k : Fin 34) :
    (iblk m c 1 t : Vec Ideal S1x1x34 .f32) (ix3 0 0 k) = (V m c main_call0_v38 : Vec Ideal S128x1x34 .f32) (ix3 t 0 k) := by
  have hi := (win_at t).1.2.1
  unfold iblk
  rw [View.read_apply]
  show V m c main_call0_v38 _ = _
  congr 1
  funext a
  apply Fin.ext
  match a with
  | ⟨0, _⟩ => show win0_1.index t 0 * 1 + 1 * 0 = t.val; rw [hi]; simp
  | ⟨1, _⟩ => show win0_1.index t 1 * 1 + 1 * 0 = 0; rw [hi]; simp
  | ⟨2, _⟩ => show win0_1.index t 2 * 34 + 1 * k.val = k.val; rw [hi]; simp

/-- The windows over weights and biases read their whole arrays. -/
theorem iblk_whole (t : Fin cfg0.N) :
    iblk m c 2 t = V m c main_call0_v39 ∧ iblk m c 3 t = V m c main_call0_v40 ∧ iblk m c 4 t = V m c main_call0_v41 ∧ iblk m c 5 t = V m c main_call0_v42
    ∧ iblk m c 6 t = V m c main_call0_v43 ∧ iblk m c 7 t = V m c main_call0_v44 ∧ iblk m c 8 t = V m c main_call0_v45 ∧ iblk m c 9 t = V m c main_call0_v46 := by
  obtain ⟨⟨-, -, h2, h3⟩, ⟨h4, h5, h6, h7⟩, h8, h9, -⟩ := win_at t
  have z : ∀ (s : Fin 2 → ℕ) (v : Fin 2 → ℕ), v = ![0, 0] → (fun a => v a * s a) = fun _ => 0 := by
    intro s v h; funext a; subst h; fin_cases a <;> simp
  exact ⟨Memref.read_access_unit_zero (Elt Ideal) main_call0_v39 (z _ _ h2) _ _, Memref.read_access_unit_zero (Elt Ideal) main_call0_v40 (z _ _ h3) _ _,
    Memref.read_access_unit_zero (Elt Ideal) main_call0_v41 (z _ _ h4) _ _, Memref.read_access_unit_zero (Elt Ideal) main_call0_v42 (z _ _ h5) _ _,
    Memref.read_access_unit_zero (Elt Ideal) main_call0_v43 (z _ _ h6) _ _, Memref.read_access_unit_zero (Elt Ideal) main_call0_v44 (z _ _ h7) _ _,
    Memref.read_access_unit_zero (Elt Ideal) main_call0_v45 (z _ _ h8) _ _, Memref.read_access_unit_zero (Elt Ideal) main_call0_v46 (z _ _ h9) _ _⟩

end Cert.KernelIdeal.Val

end
-- ==== Proof.KHead.lean ====
/-
The kernel's head on one sample: what the block writes is the specification's head.
-/
module

public import proofs.«01_k».proof.Proof.Gen.KernelIdeal
public import proofs.«01_k».proof.Proof.Gen.KernelIdeal.Skeleton
public import proofs.«01_k».proof.Proof.Head
public import proofs.«01_k».proof.Proof.KBlock
public import proofs.«01_k».proof.Proof.KAttn
public import Idealize.ShloMosaic.Lib.Pipeline.Value
public import Idealize.ShloMosaic.Lib.Pointwise

@[expose] public section

set_option maxRecDepth 16384

noncomputable section

namespace Cert.KernelIdeal.Val

open Idealize.ShloMosaic Cert.KernelIdeal.Gen Cert.Gat
open Cert.KernelIdeal
open scoped BigOperators

theorem classes_apply (cat : FVec Ideal S1x50 .f32) (cw : FVec Ideal S50x2 .f32) (cb : FVec Ideal S1x2 .f32) (h1) (h2) (h3) (q : Fin 2) :
    shapeCast S1x1x2 (addf (matmul dot_S1x50_S50x2_S1x2_1_0_0_1_n_n none cat (shapeCast S50x2 cw h1) (constant S1x2 .f32 0x00000000#32)) (shapeCast S1x2 cb h2)) h3 (ix3 0 0 q)
      = (∑ i : Fin 50, cat (ix2 0 i) * cw (ix2 i q)) + cb (ix2 0 q) := by
  pointwise

theorem freq_apply (ft : FVec Ideal S1x1x34 .f32) (fw : FVec Ideal S34x34 .f32) (fb : FVec Ideal S1x34 .f32) (h1) (h2) (h3) (j : Fin 34) :
    mulf (broadcast S1x34 (Scalar.ofBits (F := Ideal) .f32 0x3FC00000#32)) (maximumf (addf (matmul dot_S1x34_S34x34_S1x34_1_0_0_1_n_n none (shapeCast S1x34 ft h1) (shapeCast S34x34 fw h2) (constant S1x34 .f32 0x00000000#32)) (shapeCast S1x34 fb h3)) (broadcast S1x34 (Scalar.ofBits (F := Ideal) .f32 0x00000000#32))) (ix2 0 j)
      = freq (fun k => ft (ix3 0 0 k)) (fun j k => fw (ix2 k j)) (fun j => fb (ix2 0 j)) j := by
  unfold freq
  pointwise

theorem cat_apply (a : FVec Ideal S1x16 .f32) (b : FVec Ideal S1x34 .f32) (h) (i : Fin 50) :
    concatenate S1x50 1 [⟨S1x16, a⟩, ⟨S1x34, b⟩] h (ix2 0 i)
      = if h : i.val < 16 then a (ix2 0 ⟨i.val, h⟩) else b (ix2 0 ⟨i.val - 16, by omega⟩) := by
  pointwise

theorem pay1_val (gm : FVec Ideal S1x16 .f32) (ft : Vec Ideal S1x1x34 .f32) (fw : Vec Ideal S34x34 .f32) (fb : Vec Ideal S1x34 .f32) (cw : Vec Ideal S50x2 .f32) (cb : Vec Ideal S1x2 .f32) (q : Fin 2) :
    k0_pay1 gm ft fw fb cw cb (ix3 0 0 q)
      = head (fun h => gm (ix2 0 h)) (fun k => ft (ix3 0 0 k)) (fun j k => fw (ix2 k j)) (fun j => fb (ix2 0 j)) (fun q i => cw (ix2 i q)) (fun q => cb (ix2 0 q)) q := by
  unfold k0_pay1
  refine (classes_apply _ _ _ _ _ _ q).trans ?_
  unfold head
  refine congrArg₂ (· + ·) (Finset.sum_congr rfl fun i _ => congrArg₂ (· * ·) ?_ rfl) rfl
  refine (cat_apply _ _ _ i).trans ?_
  split
  · rfl
  · exact freq_apply _ _ _ _ _ _ _

section
variable {P : Par} {X : Fin 17 → ℕ → ℝ} {x0 : Vec Ideal S1x4x17x2048 .bf16} {x2 : Vec Ideal S32x86 .bf16} {x3 : Vec Ideal S64x161 .bf16} {x4 : Vec Ideal S18x64 .bf16}

/-- The block's value: the head of the specification over the mean of the attention's features. -/
theorem out_val (hx : SigIn X x0) (hW : W1In P x2) (hV : W2In P x3) (hg : WgIn P x4) (hs : SlopeIn P)
    (x1 : Vec Ideal S1x1x34 .f32) (x5 : Vec Ideal S1x16 .f32) (x6 : Vec Ideal S34x34 .f32) (x7 : Vec Ideal S1x34 .f32) (x8 : Vec Ideal S50x2 .f32) (x9 : Vec Ideal S1x2 .f32) (q : Fin 2) :
    out0_10 x0 x1 x2 x3 x4 x5 x6 x7 x8 x9 (ix3 0 0 q)
      = head (fun h => (gat P X h : EReal) * Ideal.ofBits .f32 0x3A000000#32 + x5 (ix2 0 h)) (fun k => x1 (ix3 0 0 k)) (fun j k => x6 (ix2 k j)) (fun j => x7 (ix2 0 j)) (fun q i => x8 (ix2 i q)) (fun q => x9 (ix2 0 q)) q := by
  unfold out0_10
  have z2 : (![0, 0] : Fin 2 → ℕ) = fun _ => 0 := by funext a; fin_cases a <;> rfl
  have z3 : (![0, 0, 0] : Fin 3 → ℕ) = fun _ => 0 := by funext a; fin_cases a <;> rfl
  rw [View.ld_unit_zero (off := ![0, 0]) z2 _ x4, View.ld_unit_zero (off := ![0, 0]) z2 _ x5, View.ld_unit_zero (off := ![0, 0, 0]) z3 _ x1,
    View.ld_unit_zero (off := ![0, 0]) z2 _ x6, View.ld_unit_zero (off := ![0, 0]) z2 _ x7, View.ld_unit_zero (off := ![0, 0]) z2 _ x8, View.ld_unit_zero (off := ![0, 0]) z2 _ x9]
  refine (congrFun (View.canon_unit_zero (S := S1x1x2) (off := ![0, 0, 0]) z3 _ _) _).trans ?_
  refine (pay1_val _ _ _ _ _ _ q).trans ?_
  have hn : NodesIn P X (node0 x0 x2 x3) (node1 x0 x2 x3) := fun o n => ⟨node0_val hx hW hV o n, node1_val hx hW hV o n⟩
  refine congrArg (fun f => head f _ _ _ _ _ q) (funext fun h => ?_)
  exact attn_val hn hg hs x5 h
end

end Cert.KernelIdeal.Val

end
-- ==== Proof.KValue.lean ====
/-
What the kernel leaves in its result array: at each sample and class, the result the mathematics gives.
-/
module

public import proofs.«01_k».proof.Proof.Args
public import proofs.«01_k».proof.Proof.KEntry
public import proofs.«01_k».proof.Proof.KIn
public import proofs.«01_k».proof.Proof.KHead
public import Idealize.ShloMosaic.Lib.Pipeline.Value
public import Idealize.ShloMosaic.Lib.Pointwise

@[expose] public section

set_option maxRecDepth 16384

noncomputable section

namespace Cert.KernelIdeal.Val

open Idealize.ShloMosaic Cert.KernelIdeal.Gen Idealize.ShloMosaic.TcCoe Idealize.SL.Sem Cert.Gat
open Idealize.ShloMosaic.Pipeline (Dat)
open Cert.KernelIdeal
open scoped BigOperators

variable (m : (ℓ : Loc nD τ sig) → Buf (Elt Ideal) ℓ) (c : Dev nD)

/-- The kernel's arguments. -/
def args : Args where
  x := m ((c : Thread nD τ).loc main_arg0)
  delta := m ((c : Thread nD τ).loc main_arg1)
  theta := m ((c : Thread nD τ).loc main_arg2)
  w1 := m ((c : Thread nD τ).loc main_arg3)
  b1 := m ((c : Thread nD τ).loc main_arg4)
  g1 := m ((c : Thread nD τ).loc main_arg5)
  e1 := m ((c : Thread nD τ).loc main_arg6)
  m1 := m ((c : Thread nD τ).loc main_arg7)
  v1 := m ((c : Thread nD τ).loc main_arg8)
  w2 := m ((c : Thread nD τ).loc main_arg9)
  b2 := m ((c : Thread nD τ).loc main_arg10)
  g2 := m ((c : Thread nD τ).loc main_arg11)
  e2 := m ((c : Thread nD τ).loc main_arg12)
  m2 := m ((c : Thread nD τ).loc main_arg13)
  v2 := m ((c : Thread nD τ).loc main_arg14)
  gw := m ((c : Thread nD τ).loc main_arg15)
  src := m ((c : Thread nD τ).loc main_arg16)
  dst := m ((c : Thread nD τ).loc main_arg17)
  gb := m ((c : Thread nD τ).loc main_arg18)
  fw := m ((c : Thread nD τ).loc main_arg19)
  fb := m ((c : Thread nD τ).loc main_arg20)
  cw := m ((c : Thread nD τ).loc main_arg21)
  cb := m ((c : Thread nD τ).loc main_arg22)

section
variable {A : Args} (hA : A.Finite)
include hA

theorem sig_in (t : Fin 128) (r : Fin 4) (i : Fin 17) (n : Fin 2048) : phases A.x (ix4 t r i n) = (A.sig t i (4 * n.val + r.val) : EReal) := by
  rw [phases_at, hA.x]
  unfold Args.sig
  rw [dif_pos (by omega)]

theorem scale1_in (o : Fin 32) : scale32 A.g1 A.v1 (ix1 o) = (A.par.s1 o : EReal) := by
  rw [scale32_at, rr_val _ (hA.v1_pos _), hA.g1, ← EReal.coe_mul]
  rfl

theorem scale2_in (o : Fin 64) : scale64 A.g2 A.v2 (ix1 o) = (A.par.s2 o : EReal) := by
  rw [scale64_at, rr_val _ (hA.v2_pos _), hA.g2, ← EReal.coe_mul]
  rfl

theorem w1_in : W1In A.par (weights1 A.w1 A.b1 A.g1 A.e1 A.m1 A.v1) := by
  refine ⟨fun o j i => ?_, fun o => ?_⟩
  · rw [weights1_at, scale1_in hA, hA.w1, ← EReal.coe_mul]; rfl
  · rw [shift1_at, scale1_in hA, hA.b1, hA.m1, hA.e1, ← EReal.coe_sub, ← EReal.coe_mul, ← EReal.coe_add]; rfl

theorem w2_in : W2In A.par (weights2 A.w2 A.b2 A.g2 A.e2 A.m2 A.v2) := by
  refine ⟨fun o j i => ?_, fun o => ?_⟩
  · rw [weights2_at, scale2_in hA, hA.w2, ← EReal.coe_mul]; rfl
  · rw [shift2_at, scale2_in hA, hA.b2, hA.m2, hA.e2, ← EReal.coe_sub, ← EReal.coe_mul, ← EReal.coe_add]; rfl

theorem wg_in : WgIn A.par (graphWeights A.gw A.src A.dst) := by
  refine ⟨fun h o => ?_, fun o => ?_, fun o => ?_⟩
  · rw [graph_at, hA.gw]; rfl
  · rw [graph_src, coe_sum]
    exact Finset.sum_congr rfl fun h _ => by rw [hA.gw, hA.src, ← EReal.coe_mul]; rfl
  · rw [graph_dst, coe_sum]
    exact Finset.sum_congr rfl fun h _ => by rw [hA.gw, hA.dst, ← EReal.coe_mul]; rfl

end

/-- What a grid point's block holds. -/
theorem block_val (hA : (args m c).Finite) (t : Fin 128) (q : Fin 2) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 0 q)
      = (args m c).out t q := by
  obtain ⟨w2, w3, w4, w5, w6, w7, w8, w9⟩ := iblk_whole m c t
  obtain ⟨a0, a1, a2, a3, a4, a5, a6, a7, a8, a9⟩ := V_arrays m c
  rw [w2, w3, w4, w5, w6, w7, w8, w9, a2, a3, a4, a5, a6, a7, a8, a9]
  refine (out_val (P := (args m c).par) (X := (args m c).sig t) (fun r i n => ?_) (w1_in hA) (w2_in hA) (wg_in hA) ⟨slope_val.1, slope_val.2.1⟩ _ _ _ _ _ _ q).trans ?_
  · rw [iblk0_at, a0]
    exact sig_in hA t r i n
  · unfold Args.out
    refine congr (congr (congr (congr (congr (congr (congrArg head ?_) ?_) ?_) ?_) ?_) ?_) rfl
    · funext h
      refine congrArg _ ?_
      pointwise
      rfl
    · funext k
      rw [iblk1_at, a1]
      exact bands_at _ _ t k
    · funext j k
      pointwise
      rfl
    · funext j
      pointwise
      rfl
    · funext q i
      pointwise
      rfl
    · funext q
      pointwise
      rfl

/-- Distinct grid points write distinct blocks. -/
theorem point_inj : ∀ t t' : Fin cfg0.N, win0_10.index t = win0_10.index t' → t = t' := by
  intro t t' h
  have h1 := (win_at t).2.2.2.2
  have h2 := (win_at t').2.2.2.2
  rw [h1, h2] at h
  exact Fin.ext (congrFun h 0)

theorem flush_at : ∀ t : Fin grid0.N, win0_10.flush t = true := by decide +kernel

theorem flushed_val (t : Fin cfg0.N) : (dats m 0 c).flushed 10 t = (cfg0.win 10).cut (grid0.coords t)
    (out0_10 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 10).cut (grid0.coords t) ((dats m 0 c).after 10 t) = _
  rw [after0_10]

/-- What the array the launch writes holds, entry by entry. -/
theorem array_val (hA : (args m c).Finite) (t : Fin 128) (q : Fin 2) :
    ((dats m 0 c).arrAt 10 cfg0.N : Vec Ideal S128x1x2 .f32) (ix3 t 0 q) = (args m c).out t q := by
  have hb := (dats m 0 c).read_blk_arrAt_eq_flushed 10
    (fun t t' _ _ hne => (cfg0.win 10).disjoint_blk fun h => hne (point_inj t t' h)) cfg0.N t t.isLt (flush_at t)
  have he := congrFun (hb.trans (flushed_val m c t)) (ix3 (0 : Fin 1) (0 : Fin 1) q)
  rw [View.read_apply] at he
  refine Eq.trans ?_ (he.trans (block_val m c hA t q))
  have hi := (win_at t).2.2.2.2
  show _ = (dats m 0 c).arrAt 10 cfg0.N _
  congr 1
  funext a
  apply Fin.ext
  match a with
  | ⟨0, _⟩ => show t.val = win0_10.index t 0 * 1 + 1 * 0; rw [hi]; simp
  | ⟨1, _⟩ => show 0 = win0_10.index t 1 * 1 + 1 * 0; rw [hi]; simp
  | ⟨2, _⟩ => show q.val = win0_10.index t 2 * 2 + 1 * q.val; rw [hi]; simp

theorem reshape_at (a : FVec Ideal S128x1x2 .f32) (h) (b : Fin 128) (q : Fin 2) : shapeCast S128x2 a h (ix2 b q) = a (ix3 b 0 q) := by
  pointwise

/-- What the program returns. -/
theorem result_val (hA : (args m c).Finite) (r : PUnit × MemSt nD τ sig (Elt Ideal))
    (h : Pipeline.FramePost cfgs (dats m) 0 (Pipeline.afterTail₀ cfgs (dats m) 0 (V0 m) [hostOps1]) r) :
    (r.2.mem ((c : Thread nD τ).loc main_v0) : Vec Ideal S128x2 .f32) = fun i => (args m c).out (i 0) (i 1) := by
  rw [(h c).2 main_v0 (Pipeline.mem_restRefs_of main_v0 (by decide) (by decide))]
  unfold Pipeline.afterTail₀
  simp only [List.flatten_cons, List.flatten_nil, List.append_nil, hostOps1]
  after_results_simp
  have e := Pipeline.withArrays_arr (cfgs 0).spec (by decide) c (V0 m c) (fun w => (dats m 0 c).arrAt w (cfgs 0).N) 10
  funext i
  obtain ⟨b, q, rfl⟩ : ∃ b q, i = ix2 b q := ⟨i 0, i 1, by funext a; fin_cases a <;> rfl⟩
  refine (congrFun (congrArg (fun a : FVec Ideal S128x1x2 .f32 => shapeCast S128x2 a shapeCasts_S128x1x2_S128x2) e) (ix2 b q)).trans ?_
  exact (reshape_at _ _ b q).trans (array_val m c hA b q)

end Cert.KernelIdeal.Val

end
-- ==== Proof.RConv.lean ====
/-
The reference's two convolution blocks and the attention's features: every array holds the real numbers of the
specification.
-/
module

public import proofs.«01_k».proof.Proof.Gen.ReferenceIdeal
public import proofs.«01_k».proof.Proof.Gen.ReferenceIdeal.Run
public import proofs.«01_k».proof.Proof.Args
public import Idealize.ShloMosaic.Lib.Pointwise
public import Idealize.ShloMosaic.Lib.Tactic.CleanTypes

@[expose] public section

set_option maxRecDepth 16384

noncomputable section

namespace Cert.ReferenceIdeal.Val

open Idealize.ShloMosaic Cert.ReferenceIdeal.Gen Cert.Gat
open Idealize.ShloMosaic.StableHlo
open Cert.ReferenceIdeal Cert.ReferenceIdeal.Value
open scoped BigOperators

/-- The reference's arguments. -/
def args (V0 : Valuation τ sig (Elt Ideal)) : Args where
  x := V0 (Proc.devRef .tc main_arg0)
  delta := V0 (Proc.devRef .tc main_arg1)
  theta := V0 (Proc.devRef .tc main_arg2)
  w1 := V0 (Proc.devRef .tc main_arg3)
  b1 := V0 (Proc.devRef .tc main_arg4)
  g1 := V0 (Proc.devRef .tc main_arg5)
  e1 := V0 (Proc.devRef .tc main_arg6)
  m1 := V0 (Proc.devRef .tc main_arg7)
  v1 := V0 (Proc.devRef .tc main_arg8)
  w2 := V0 (Proc.devRef .tc main_arg9)
  b2 := V0 (Proc.devRef .tc main_arg10)
  g2 := V0 (Proc.devRef .tc main_arg11)
  e2 := V0 (Proc.devRef .tc main_arg12)
  m2 := V0 (Proc.devRef .tc main_arg13)
  v2 := V0 (Proc.devRef .tc main_arg14)
  gw := V0 (Proc.devRef .tc main_arg15)
  src := V0 (Proc.devRef .tc main_arg16)
  dst := V0 (Proc.devRef .tc main_arg17)
  gb := V0 (Proc.devRef .tc main_arg18)
  fw := V0 (Proc.devRef .tc main_arg19)
  fb := V0 (Proc.devRef .tc main_arg20)
  cw := V0 (Proc.devRef .tc main_arg21)
  cb := V0 (Proc.devRef .tc main_arg22)

theorem zero_int : FloatOps.sitofp (F := Ideal) FTy.f32 0#32 = (0 : EReal) := by
  show (((0#32 : BitVec 32).toInt : ℝ) : EReal) = 0
  simp

theorem fold2 {op : EReal → EReal → EReal} [Std.Commutative op] [Std.Associative op] {z : EReal} {f : Fin 2 → EReal} {a b : ℝ}
    (hop : ∀ x y, op x y = max x y) (hz : z = ⊥) (h0 : f 0 = (a : EReal)) (h1 : f 1 = (b : EReal)) : Finset.fold op z f Finset.univ = ((max a b : ℝ) : EReal) := by
  rw [show (Finset.univ : Finset (Fin 2)) = {0, 1} from rfl, Finset.fold_insert (by decide), Finset.fold_singleton, hop, hop, hz, max_bot_right, h0, h1, coe_max]

theorem tap {I : ℕ} (A B : Fin I → EReal) (a b : Fin I → ℝ) (hA : ∀ i, A i = (a i : EReal)) (hB : ∀ i, B i = (b i : EReal)) :
    ∑ i, A i * B i = ((∑ i, a i * b i : ℝ) : EReal) := by
  rw [coe_sum]
  exact Finset.sum_congr rfl fun i _ => by rw [hA, hB, EReal.coe_mul]

/-- One normalised and rectified entry of a convolution, from its five taps. -/
theorem act_ref {I : ℕ} (w : Fin I → Fin 5 → ℝ) (b m g r e : ℝ) (hp : Fin I → ℕ → ℝ) (t : ℕ) :
    max (((∑ i, hp i t * w i 0) + (∑ i, hp i (t + 1) * w i 1) + (∑ i, hp i (t + 2) * w i 2) + (∑ i, hp i (t + 3) * w i 3) + (∑ i, hp i (t + 4) * w i 4) + b - m) * (g * r) + e) 0
      = act w (g * r) ((b - m) * (g * r) + e) hp t := by
  unfold act
  rw [Fin.sum_univ_five]
  refine congrArg (max · 0) ?_
  have h : ∀ (d : Fin 5) (s : ℕ), ∑ i, w i d * (g * r) * hp i s = (∑ i, hp i s * w i d) * (g * r) := fun d s => by
    rw [Finset.sum_mul]; exact Finset.sum_congr rfl fun i _ => by ring
  simp only [h]
  simp only [show ((0 : Fin 5) : ℕ) = 0 from rfl, show ((1 : Fin 5) : ℕ) = 1 from rfl, show ((2 : Fin 5) : ℕ) = 2 from rfl, show ((3 : Fin 5) : ℕ) = 3 from rfl, show ((4 : Fin 5) : ℕ) = 4 from rfl, Nat.add_zero]
  ring

/-- The same entry as the reference computes it, over extended reals that hold real numbers. -/
theorem act_val {I : ℕ} (w : Fin I → Fin 5 → ℝ) (b m g r e : ℝ) (hp : Fin I → ℕ → ℝ) (t : ℕ) (y0 y1 y2 y3 y4 B M G R E : EReal)
    (h0 : y0 = ((∑ i, hp i t * w i 0 : ℝ) : EReal)) (h1 : y1 = ((∑ i, hp i (t + 1) * w i 1 : ℝ) : EReal)) (h2 : y2 = ((∑ i, hp i (t + 2) * w i 2 : ℝ) : EReal))
    (h3 : y3 = ((∑ i, hp i (t + 3) * w i 3 : ℝ) : EReal)) (h4 : y4 = ((∑ i, hp i (t + 4) * w i 4 : ℝ) : EReal))
    (hB : B = (b : EReal)) (hM : M = (m : EReal)) (hG : G = (g : EReal)) (hR : R = (r : EReal)) (hE : E = (e : EReal)) :
    max ((y0 + y1 + y2 + y3 + y4 + B - M) * (G * R) + E) 0 = (act w (g * r) ((b - m) * (g * r) + e) hp t : EReal) := by
  rw [h0, h1, h2, h3, h4, hB, hM, hG, hR, hE, ← act_ref]
  simp only [coe_max, EReal.coe_add, EReal.coe_sub, EReal.coe_mul, EReal.coe_zero]

section
variable {V0 : Valuation τ sig (Elt Ideal)} (hA : (args V0).Finite)
include hA

theorem v0_val (b : Fin 128) (i : Fin 17) (s : Fin 8196) :
    (res_main_v0 V0 : FVec Ideal S128x17x8196 .f32) (ix3 b i s) = (xp ((args V0).sig b) i s.val : EReal) := by
  have hs := s.isLt
  unfold res_main_v0
  clean_types
  pointwise
  unfold xp pad2
  split
  · rename_i h
    rw [if_pos (by omega)]
    refine (hA.x _).trans ?_
    unfold Args.sig
    rw [dif_pos h.2]
  · rename_i h
    rw [if_neg (by omega), zero_int]; rfl

theorem v0_at (b : Fin 128) (i : Fin 17) (k : Fin 8196) (n : ℕ) (h : k.val = n) :
    (res_main_v0 V0 : FVec Ideal S128x17x8196 .f32) (ix3 b i k) = (xp ((args V0).sig b) i n : EReal) := by
  subst h; exact v0_val hA b i k

theorem v49_val (b : Fin 128) (o : Fin 32) (s : Fin 4100) :
    (res_main_v49 V0 : FVec Ideal S128x32x4100 .f32) (ix3 b o s) = (hp (args V0).par ((args V0).sig b) o s.val : EReal) := by
  have hs := s.isLt
  unfold res_main_v49
  clean_types
  pointwise
  split
  · rename_i h
    refine (fold2 (a := c1 (args V0).par ((args V0).sig b) o (2 * (s.val - 2))) (b := c1 (args V0).par ((args V0).sig b) o (2 * (s.val - 2) + 1)) (fun _ _ => rfl) two_pow_val.2.2 ?_ ?_).trans ?_
    · refine act_val ((args V0).par.W1 o) ((args V0).par.b1 o) ((args V0).par.m1 o) ((args V0).par.g1 o) ((args V0).par.r1 o) ((args V0).par.e1 o) (xp ((args V0).sig b)) (2 * (s.val - 2)) _ _ _ _ _ _ _ _ _ _
        (tap _ _ _ _ (fun i => ?_) (fun i => ?_)) (tap _ _ _ _ (fun i => ?_) (fun i => ?_)) (tap _ _ _ _ (fun i => ?_) (fun i => ?_)) (tap _ _ _ _ (fun i => ?_) (fun i => ?_)) (tap _ _ _ _ (fun i => ?_) (fun i => ?_))
        (hA.b1 _) (hA.m1 _) (hA.g1 _) (rr_val _ (hA.v1_pos _)) (hA.e1 _)
      all_goals first
        | exact hA.w1 _
        | exact v0_at hA b i _ _ (by show _ + _ = _; simp only [Fin.val_zero, Fin.val_one]; omega)
        | exact v0_at hA b i _ _ (by simp only [Fin.val_zero, Fin.val_one]; omega)
    · refine act_val ((args V0).par.W1 o) ((args V0).par.b1 o) ((args V0).par.m1 o) ((args V0).par.g1 o) ((args V0).par.r1 o) ((args V0).par.e1 o) (xp ((args V0).sig b)) (2 * (s.val - 2) + 1) _ _ _ _ _ _ _ _ _ _
        (tap _ _ _ _ (fun i => ?_) (fun i => ?_)) (tap _ _ _ _ (fun i => ?_) (fun i => ?_)) (tap _ _ _ _ (fun i => ?_) (fun i => ?_)) (tap _ _ _ _ (fun i => ?_) (fun i => ?_)) (tap _ _ _ _ (fun i => ?_) (fun i => ?_))
        (hA.b1 _) (hA.m1 _) (hA.g1 _) (rr_val _ (hA.v1_pos _)) (hA.e1 _)
      all_goals first
        | exact hA.w1 _
        | exact v0_at hA b i _ _ (by show _ + _ = _; simp only [Fin.val_zero, Fin.val_one]; omega)
        | exact v0_at hA b i _ _ (by simp only [Fin.val_zero, Fin.val_one]; omega)
    · exact congrArg _ (pad2_mid 4096 (h1 (args V0).par ((args V0).sig b) o) (s.val - 2) s.val (by omega) h.2).symm
  · rename_i h
    refine zero_int.trans ?_
    unfold hp pad2
    rw [if_neg (by omega)]; rfl

theorem v49_at (b : Fin 128) (o : Fin 32) (k : Fin 4100) (n : ℕ) (h : k.val = n) :
    (res_main_v49 V0 : FVec Ideal S128x32x4100 .f32) (ix3 b o k) = (hp (args V0).par ((args V0).sig b) o n : EReal) := by
  subst h; exact v49_val hA b o k

theorem v99_val (b : Fin 128) (n : Fin 2048) (h : Fin 16) :
    (res_main_v99 V0 : FVec Ideal S128x2048x16 .f32) (ix3 b n h) = (wx (args V0).par ((args V0).sig b) h n.val : EReal) := by
  have hn := n.isLt
  unfold res_main_v99
  clean_types
  pointwise
  refine tap _ _ (fun o => nodes (args V0).par ((args V0).sig b) o n.val) (fun o => (args V0).par.G o h) (fun o => ?_) (fun o => hA.gw _)
  refine fold2 (a := c2 (args V0).par ((args V0).sig b) o (2 * n.val)) (b := c2 (args V0).par ((args V0).sig b) o (2 * n.val + 1)) (fun _ _ => rfl) two_pow_val.2.2 ?_ ?_
  · refine act_val ((args V0).par.W2 o) ((args V0).par.b2 o) ((args V0).par.m2 o) ((args V0).par.g2 o) ((args V0).par.r2 o) ((args V0).par.e2 o) (hp (args V0).par ((args V0).sig b)) (2 * n.val) _ _ _ _ _ _ _ _ _ _
      (tap _ _ _ _ (fun i => ?_) (fun i => ?_)) (tap _ _ _ _ (fun i => ?_) (fun i => ?_)) (tap _ _ _ _ (fun i => ?_) (fun i => ?_)) (tap _ _ _ _ (fun i => ?_) (fun i => ?_)) (tap _ _ _ _ (fun i => ?_) (fun i => ?_))
      (hA.b2 _) (hA.m2 _) (hA.g2 _) (rr_val _ (hA.v2_pos _)) (hA.e2 _)
    all_goals first
      | exact hA.w2 _
      | exact v49_at hA b i _ _ (by show _ + _ = _; simp only [Fin.val_zero, Fin.val_one]; omega)
      | exact v49_at hA b i _ _ (by simp only [Fin.val_zero, Fin.val_one]; omega)
  · refine act_val ((args V0).par.W2 o) ((args V0).par.b2 o) ((args V0).par.m2 o) ((args V0).par.g2 o) ((args V0).par.r2 o) ((args V0).par.e2 o) (hp (args V0).par ((args V0).sig b)) (2 * n.val + 1) _ _ _ _ _ _ _ _ _ _
      (tap _ _ _ _ (fun i => ?_) (fun i => ?_)) (tap _ _ _ _ (fun i => ?_) (fun i => ?_)) (tap _ _ _ _ (fun i => ?_) (fun i => ?_)) (tap _ _ _ _ (fun i => ?_) (fun i => ?_)) (tap _ _ _ _ (fun i => ?_) (fun i => ?_))
      (hA.b2 _) (hA.m2 _) (hA.g2 _) (rr_val _ (hA.v2_pos _)) (hA.e2 _)
    all_goals first
      | exact hA.w2 _
      | exact v49_at hA b i _ _ (by show _ + _ = _; simp only [Fin.val_zero, Fin.val_one]; omega)
      | exact v49_at hA b i _ _ (by simp only [Fin.val_zero, Fin.val_one]; omega)
end

end Cert.ReferenceIdeal.Val

end
-- ==== Proof.RAttn.lean ====
/-
The reference's attention: its logits, its softmax and its weighted features hold the specification's numbers.
-/
module

public import proofs.«01_k».proof.Proof.RConv
public import Idealize.ShloMosaic.Lib.Pointwise
public import Idealize.ShloMosaic.Lib.Tactic.CleanTypes

@[expose] public section

set_option maxRecDepth 16384

noncomputable section

namespace Cert.ReferenceIdeal.Val

open Idealize.ShloMosaic Cert.ReferenceIdeal.Gen Cert.Gat
open Idealize.ShloMosaic.StableHlo
open Cert.ReferenceIdeal Cert.ReferenceIdeal.Value
open scoped BigOperators

theorem fold5 {op : EReal → EReal → EReal} [Std.Commutative op] [Std.Associative op] {P : Par} {X : Fin 17 → ℕ → ℝ} {n : ℕ} {z : EReal} {f : Fin 5 → EReal}
    (hop : ∀ x y, op x y = max x y) (hz : z = ⊥) (h : ∀ d : Fin 5, f d = lg P X n d.val) : Finset.fold op z f Finset.univ = mx P X n := by
  rw [show (Finset.univ : Finset (Fin 5)) = {0, 1, 2, 3, 4} from rfl, Finset.fold_insert (by decide), Finset.fold_insert (by decide), Finset.fold_insert (by decide),
    Finset.fold_insert (by decide), Finset.fold_singleton, hz]
  simp only [hop, h, max_bot_right]
  unfold mx
  simp only [max_assoc]
  rfl

theorem exp_ref {op : EReal → EReal → EReal} {P : Par} {X : Fin 17 → ℕ → ℝ} {n d : ℕ} (hn : n < 2048) {a z y : EReal} (hop : ∀ x y, op x y = max x y)
    (ha : a = lg P X n d) (hz : z = ⊥) (hy : y = mx P X n) : Ideal.exp (a - op z y) = (ee P X n d : EReal) := by
  rw [hop, ha, hz, hy, max_bot_left]
  exact exp_lg P X n d hn

theorem pos_toInt (n d : ℕ) (hn : n < 2048) (hd : d < 5) : (BitVec.ofNat 32 n + BitVec.ofNat 32 d - 2#32).toInt = (n : ℤ) + d - 2 := by
  have t : ∀ k < 2048, (BitVec.ofNat 32 k).toInt = (k : ℤ) := fun k hk => by
    rw [BitVec.toInt_eq_toNat_cond, BitVec.toNat_ofNat, Nat.mod_eq_of_lt (by omega), if_pos (by omega)]
  rw [BitVec.toInt_sub, BitVec.toInt_add, t n hn, t d (by omega), show (2#32 : BitVec 32).toInt = 2 from by decide]
  simp only [Int.bmod_def]
  omega

/-- The reference's test of a neighbour's position selects exactly where the neighbour exists. -/
theorem sel_valid (n d : ℕ) (hn : n < 2048) (hd : d < 5) (v : BitVec 32) (hv : v = BitVec.ofNat 32 n + BitVec.ofNat 32 d - 2#32) (A B : EReal) :
    Scalar.select (IntOp.andi (IntOp.cmpi CmpIPredicate.sge v 0#32) (IntOp.cmpi CmpIPredicate.slt v 2048#32)) A B = if valid n d then A else B := by
  have h := pos_toInt n d hn hd
  rw [← hv] at h
  have h1 : (0#32 : BitVec 32).sle v = decide (2 ≤ n + d) := by
    rw [BitVec.sle_eq_decide, h]
    exact decide_eq_decide.2 (by show (0 : ℤ) ≤ _ ↔ _; omega)
  have h2 : v.slt 2048#32 = decide (n + d < 2050) := by
    rw [BitVec.slt_eq_decide, h, show (2048#32 : BitVec 32).toInt = 2048 from by decide]
    exact decide_eq_decide.2 (by omega)
  unfold Scalar.select IntOp.andi IntOp.cmpi
  simp only [h1, h2]
  unfold valid
  by_cases c1 : 2 ≤ n + d <;> by_cases c2 : n + d < 2050 <;> simp [c1, c2]

/-- One logit: the leaky relu of the two scores' sum where the neighbour exists. -/
theorem logit (P : Par) (X : Fin 17 → ℕ → ℝ) (n d : ℕ) (hn : n < 2048) (hd : d < 5) (v : BitVec 32) (z S B : EReal) (hv : v = BitVec.ofNat 32 n + BitVec.ofNat 32 d - 2#32)
    (hz : z = ((pad2 2048 (esrc P X) (n + d) + edst P X n : ℝ) : EReal)) (hS : S = (P.sl : EReal)) (hs : 0 < P.sl ∧ P.sl ≤ 1) (hB : B = ⊥) :
    Scalar.select (IntOp.andi (IntOp.cmpi CmpIPredicate.sge v 0#32) (IntOp.cmpi CmpIPredicate.slt v 2048#32)) (if 0 ≤ z then z else S * z) B = lg P X n d := by
  rw [sel_valid n d hn hd v hv]
  unfold lg
  split
  · rename_i hV
    unfold valid at hV
    rw [hz, hS, pad2_mid 2048 (esrc P X) (n + d - 2) (n + d) (by omega) (by omega)]
    show (if 0 ≤ ((zz P X n d : ℝ) : EReal) then ((zz P X n d : ℝ) : EReal) else (P.sl : EReal) * (zz P X n d : ℝ)) = (lr P X n d : EReal)
    unfold lr
    rw [← EReal.coe_mul]
    by_cases hp : 0 ≤ zz P X n d
    · rw [if_pos (by exact_mod_cast hp), max_eq_left (by nlinarith [hs.2])]
    · rw [if_neg (by exact_mod_cast hp), max_eq_right (by nlinarith [hs.2])]
  · exact hB

theorem v138_at (V0 : Valuation τ sig (Elt Ideal)) (n : Fin 2048) (d : Fin 5) :
    (res_main_v138 V0 : IVec S2048x5 32) (ix2 n d) = BitVec.ofNat 32 n.val + BitVec.ofNat 32 d.val - 2#32 := by
  unfold res_main_v138
  clean_types
  pointwise
  rfl

/-- The reference's maximum over the neighbours, over any logits. -/
theorem rowmax_apply (L : FVec Ideal S128x2048x5 .f32) (h4 h5) (b : Fin 128) (n : Fin 2048) :
    (Host.reduce (FloatOps.maximumf (F := Ideal) (φ := .f32)) L (constant S_ .f32 0xFF800000#32) (axes := [2]) (t := S128x2048) h4 h5) (ix2 b n)
      = Finset.fold max (Ideal.ofBits .f32 0xFF800000#32) (fun x : Fin 5 => L (ix3 b n x)) Finset.univ := by
  pointwise

/-- The reference's exponentials, over any logits and row maxima. -/
theorem exp_apply (L : FVec Ideal S128x2048x5 .f32) (K : FVec Ideal S128x2048 .f32) (h1 h2 h3) (b : Fin 128) (n : Fin 2048) (d : Fin 5) :
    Host.exp (subf L (broadcastInDim S128x2048x5 ![0, 1, 2] h1 (broadcastInDim S128x2048x1 ![0, 1] h2 (maximumf (broadcastInDim S128x2048 ![] h3 (constant S_ .f32 0xFF800000#32)) K)))) (ix3 b n d)
      = Ideal.exp (L (ix3 b n d) - max (Ideal.ofBits .f32 0xFF800000#32) (K (ix2 b n))) := by
  pointwise

section
variable {V0 : Valuation τ sig (Elt Ideal)} (hA : (args V0).Finite)
include hA

theorem v102_val (b : Fin 128) (s : Fin 2052) (h : Fin 16) :
    (res_main_v102 V0 : FVec Ideal S128x2052x16 .f32) (ix3 b s h) = (pad2 2048 (wx (args V0).par ((args V0).sig b) h) s.val : EReal) := by
  have hs := s.isLt
  unfold res_main_v102
  clean_types
  pointwise
  split
  · rename_i h'
    exact (v99_val hA b _ h).trans (congrArg _ (pad2_mid 2048 (wx (args V0).par ((args V0).sig b) h) (s.val - 2) s.val (by omega) h'.2).symm)
  · rename_i h'
    refine zero_int.trans ?_
    unfold pad2
    rw [if_neg (by omega)]; rfl

theorem v103_val (b : Fin 128) (s : Fin 2052) :
    (res_main_v103 V0 : FVec Ideal S128x2052 .f32) (ix2 b s) = (pad2 2048 (esrc (args V0).par ((args V0).sig b)) s.val : EReal) := by
  have hs := s.isLt
  unfold res_main_v103
  clean_types
  pointwise
  split
  · rename_i h'
    refine Eq.trans ?_ (congrArg Real.toEReal (pad2_mid 2048 (esrc (args V0).par ((args V0).sig b)) (s.val - 2) s.val (by omega) h'.2).symm)
    exact tap _ _ (fun h => wx (args V0).par ((args V0).sig b) h (s.val - 2)) (fun h => (args V0).par.src h) (fun h => v99_val hA b _ h) (fun h => hA.src _)
  · rename_i h'
    refine zero_int.trans ?_
    unfold pad2
    rw [if_neg (by omega)]; rfl

theorem v128_val (b : Fin 128) (n : Fin 2048) (d : Fin 5) :
    (res_main_v128 V0 : FVec Ideal S128x2048x5 .f32) (ix3 b n d)
      = ((pad2 2048 (esrc (args V0).par ((args V0).sig b)) (n.val + d.val) + edst (args V0).par ((args V0).sig b) n.val : ℝ) : EReal) := by
  have hn := n.isLt
  have hd := d.isLt
  unfold res_main_v128
  clean_types
  pointwise
  refine Eq.trans ?_ (EReal.coe_add _ _).symm
  refine congrArg₂ (· + ·) ?_ ?_
  · have e : ∀ (k : Fin 2052), k.val = n.val + d.val → (res_main_v103 V0 : FVec Ideal S128x2052 .f32) (ix2 b k) = (pad2 2048 (esrc (args V0).par ((args V0).sig b)) (n.val + d.val) : EReal) :=
      fun k hk => (v103_val hA b k).trans (by rw [hk])
    split
    · exact e _ (by show n.val = _; omega)
    split
    · exact e _ (by show 1 + n.val = _; omega)
    split
    · exact e _ (by show 2 + n.val = _; omega)
    split
    · exact e _ (by show 3 + n.val = _; omega)
    · exact e _ (by show 4 + n.val = _; omega)
  · exact tap _ _ (fun h => wx (args V0).par ((args V0).sig b) h n.val) (fun h => (args V0).par.dst h) (fun h => v99_val hA b _ h) (fun h => hA.dst _)

theorem v145_val (b : Fin 128) (n : Fin 2048) (d : Fin 5) :
    (res_main_v145 V0 : FVec Ideal S128x2048x5 .f32) (ix3 b n d) = lg (args V0).par ((args V0).sig b) n.val d.val := by
  unfold res_main_v145
  clean_types
  pointwise
  exact logit (args V0).par ((args V0).sig b) n.val d.val n.isLt d.isLt _ _ _ _ (v138_at V0 n d) (v128_val hA b n d) slope_val.1 slope_val.2 two_pow_val.2.2

theorem v152_val (b : Fin 128) (n : Fin 2048) (d : Fin 5) :
    (res_main_v152 V0 : FVec Ideal S128x2048x5 .f32) (ix3 b n d) = (ee (args V0).par ((args V0).sig b) n.val d.val : EReal) := by
  unfold res_main_v152
  clean_types
  refine (exp_apply (res_main_v145 V0) _ _ _ _ b n d).trans ?_
  exact exp_ref n.isLt (fun _ _ => rfl) (v145_val hA b n d) two_pow_val.2.2
    ((rowmax_apply (res_main_v145 V0) _ _ b n).trans (fold5 (fun _ _ => rfl) two_pow_val.2.2 (fun d => v145_val hA b n d)))
end

end Cert.ReferenceIdeal.Val

end
-- ==== Proof.RValue.lean ====
/-
The reference's result: the softmax's weights, the weighted features, their mean and the head.
-/
module

public import proofs.«01_k».proof.Proof.RAttn
public import Idealize.ShloMosaic.Lib.Pointwise
public import Idealize.ShloMosaic.Lib.Tactic.CleanTypes

@[expose] public section

set_option maxRecDepth 16384

noncomputable section

namespace Cert.ReferenceIdeal.Val

open Idealize.ShloMosaic Cert.ReferenceIdeal.Gen Cert.Gat
open Idealize.ShloMosaic.StableHlo
open Cert.ReferenceIdeal Cert.ReferenceIdeal.Value
open scoped BigOperators

/-- A constant added up, over the reals with infinities. -/
theorem nsmul_top_bot (k : ℕ) : (k + 1) • (⊤ : EReal) = ⊤ ∧ (k + 1) • (⊥ : EReal) = ⊥ := by
  induction k with
  | zero => simp
  | succ k ih => rw [succ_nsmul, ih.1, succ_nsmul, ih.2]; exact ⟨rfl, rfl⟩

/-- The mean of real numbers shifted by one number is their mean shifted by it. -/
theorem mean_shift (r : Fin 2048 → ℝ) (g : EReal) :
    Ideal.div (∑ n, ((r n : EReal) + g)) ((2048 : ℝ) : EReal) = ((∑ n, r n : ℝ) : EReal) * ((1 / 2048 : ℝ) : EReal) + g := by
  have h0 : ((2048 : ℝ) : EReal) ≠ 0 := fun h => by
    have := EReal.coe_eq_zero.1 h
    norm_num at this
  have hp : (0 : ℝ) < (2048 : ℝ)⁻¹ := by norm_num
  rw [Finset.sum_add_distrib, ← coe_sum, Finset.sum_const, Finset.card_univ, Fintype.card_fin]
  unfold Ideal.div
  rw [if_neg h0, ← EReal.coe_inv, ← EReal.coe_mul]
  induction g with
  | bot => rw [(nsmul_top_bot 2047).2, EReal.add_bot, EReal.bot_mul_coe_of_pos hp, EReal.add_bot]
  | top => rw [(nsmul_top_bot 2047).1, EReal.coe_add_top, EReal.top_mul_coe_of_pos hp, EReal.coe_add_top]
  | coe g =>
    rw [← EReal.coe_nsmul, ← EReal.coe_add, ← EReal.coe_mul, ← EReal.coe_add, nsmul_eq_mul]
    congr 1
    push_cast
    ring

theorem rowsum_apply (E : FVec Ideal S128x2048x5 .f32) (h3 h4) (b : Fin 128) (n : Fin 2048) :
    (Host.reduceAdd (F := Ideal) (φ := .f32) E (constant S_ .f32 0x00000000#32) (axes := [2]) (t := S128x2048) h3 h4) (ix2 b n) = ∑ x : Fin 5, E (ix3 b n x) := by
  pointwise

theorem quot_apply (E : FVec Ideal S128x2048x5 .f32) (K : FVec Ideal S128x2048 .f32) (h1 h2) (b : Fin 128) (n : Fin 2048) (d : Fin 5) :
    Host.divf E (broadcastInDim S128x2048x5 ![0, 1, 2] h1 (broadcastInDim S128x2048x1 ![0, 1] h2 K)) (ix3 b n d) = Ideal.div (E (ix3 b n d)) (K (ix2 b n)) := by
  pointwise

theorem features_apply (A : FVec Ideal S128x2048x5 .f32) (N : FVec Ideal S128x2048x5x16 .f32) (b : Fin 128) (n : Fin 2048) (h : Fin 16) :
    Host.dotGeneral dot_S128x2048x5_S128x2048x5x16_S128x2048x16_2_2_n_3_01_01 none A N (ix3 b n h) = ∑ d : Fin 5, A (ix3 b n d) * N (ix4 b n d h) := by
  pointwise

theorem colsum_apply (R : FVec Ideal S128x2048x16 .f32) (h3 h4) (b : Fin 128) (h : Fin 16) :
    (Host.reduceAdd (F := Ideal) (φ := .f32) R (constant S_ .f32 0x00000000#32) (axes := [1]) (t := S128x16) h3 h4) (ix2 b h) = ∑ n : Fin 2048, R (ix3 b n h) := by
  pointwise

theorem bias_apply (R : FVec Ideal S128x2048x16 .f32) (g : FVec Ideal S16 .f32) (h1 h2) (b : Fin 128) (n : Fin 2048) (h : Fin 16) :
    addf R (broadcastInDim S128x2048x16 ![0, 1, 2] h1 (broadcastInDim S1x1x16 ![2] h2 g)) (ix3 b n h) = R (ix3 b n h) + g (ix1 h) := by
  pointwise

theorem mean_apply (K : FVec Ideal S128x16 .f32) (h1) (b : Fin 128) (h : Fin 16) :
    Host.divf K (broadcastInDim S128x16 ![] h1 (constant S_ .f32 0x45000000#32)) (ix2 b h) = Ideal.div (K (ix2 b h)) (Ideal.ofBits .f32 0x45000000#32) := by
  pointwise

theorem freq_apply (ft : FVec Ideal S128x34 .f32) (fw : FVec Ideal S34x34 .f32) (fb : FVec Ideal S34 .f32) (h1 h2 h3 h4 h5) (b : Fin 128) (j : Fin 34) :
    mulf (broadcastInDim S128x34 ![] h1 (constant S_ .f32 0x3FC00000#32)) (maximumf (addf (Host.dotGeneral dot_S128x34_S34x34_S128x34_1_0_0_1_n_n none ft (transpose S34x34 [1, 0] fw h2)) (broadcastInDim S128x34 ![0, 1] h3 (broadcastInDim S1x34 ![1] h4 fb))) (broadcastInDim S128x34 ![] h5 (constant S_ .f32 0x00000000#32))) (ix2 b j)
      = freq (fun k => ft (ix2 b k)) (fun j k => fw (ix2 j k)) (fun j => fb (ix1 j)) j := by
  unfold freq
  pointwise

theorem bands_apply (u v : FVec Ideal S128x17 .f32) (h) (b : Fin 128) (k : Fin 34) :
    concatenate S128x34 1 [⟨S128x17, u⟩, ⟨S128x17, v⟩] h (ix2 b k) = if h : k.val < 17 then u (ix2 b ⟨k.val, h⟩) else v (ix2 b ⟨k.val - 17, by omega⟩) := by
  pointwise

theorem cat_apply (u : FVec Ideal S128x16 .f32) (v : FVec Ideal S128x34 .f32) (h) (b : Fin 128) (k : Fin 50) :
    concatenate S128x50 1 [⟨S128x16, u⟩, ⟨S128x34, v⟩] h (ix2 b k) = if h : k.val < 16 then u (ix2 b ⟨k.val, h⟩) else v (ix2 b ⟨k.val - 16, by omega⟩) := by
  pointwise

theorem classes_apply (cat : FVec Ideal S128x50 .f32) (cw : FVec Ideal S2x50 .f32) (cb : FVec Ideal S2 .f32) (h1 h2 h3) (b : Fin 128) (q : Fin 2) :
    addf (Host.dotGeneral dot_S128x50_S50x2_S128x2_1_0_0_1_n_n none cat (transpose S50x2 [1, 0] cw h1)) (broadcastInDim S128x2 ![0, 1] h2 (broadcastInDim S1x2 ![1] h3 cb)) (ix2 b q)
      = (∑ i : Fin 50, cat (ix2 b i) * cw (ix2 q i)) + cb (ix1 q) := by
  pointwise

theorem nbr_apply (w : FVec Ideal S128x2052x16 .f32) (z : ℕ → EReal) (b : Fin 128) (h : Fin 16) (hw : ∀ s : Fin 2052, w (ix3 b s h) = z s.val)
    (h1 h2 h3 h4 h5 h7) (n : Fin 2048) (d : Fin 5) :
    concatenate S128x2048x5x16 2 [⟨S128x2048x1x16, broadcastInDim S128x2048x1x16 ![0, 1, 3] h7 (extractStridedSlice S128x2048x16 ![0, 0, 0] w h1)⟩,
      ⟨S128x2048x1x16, broadcastInDim S128x2048x1x16 ![0, 1, 3] h7 (extractStridedSlice S128x2048x16 ![0, 1, 0] w h2)⟩,
      ⟨S128x2048x1x16, broadcastInDim S128x2048x1x16 ![0, 1, 3] h7 (extractStridedSlice S128x2048x16 ![0, 2, 0] w h3)⟩,
      ⟨S128x2048x1x16, broadcastInDim S128x2048x1x16 ![0, 1, 3] h7 (extractStridedSlice S128x2048x16 ![0, 3, 0] w h4)⟩,
      ⟨S128x2048x1x16, broadcastInDim S128x2048x1x16 ![0, 1, 3] h7 (extractStridedSlice S128x2048x16 ![0, 4, 0] w h5)⟩] concatenates_S128x2048x1x16_S128x2048x1x16_S128x2048x1x16_S128x2048x1x16_S128x2048x1x16_S128x2048x5x16_d2 (ix4 b n d h) = z (n.val + d.val) := by
  have hd := d.isLt
  have e : ∀ k : Fin 2052, k.val = n.val + d.val → w (ix3 b k h) = z (n.val + d.val) := fun k hk => (hw k).trans (by rw [hk])
  pointwise
  split
  · exact e _ (by show n.val = _; omega)
  split
  · exact e _ (by show 1 + n.val = _; omega)
  split
  · exact e _ (by show 2 + n.val = _; omega)
  split
  · exact e _ (by show 3 + n.val = _; omega)
  · exact e _ (by show 4 + n.val = _; omega)

/-- The mean over the nodes of the weighted features shifted by a bias, from the weights and the neighbours' features. -/
theorem mean_val (A : FVec Ideal S128x2048x5 .f32) (N : FVec Ideal S128x2048x5x16 .f32) (g : FVec Ideal S16 .f32) (h1 h2 h3 h4 h5) (P : Par) (X : Fin 17 → ℕ → ℝ)
    (b : Fin 128) (h : Fin 16) (hA : ∀ n d, A (ix3 b n d) = (alpha P X n.val d.val : EReal)) (hN : ∀ n d, N (ix4 b n d h) = (pad2 2048 (wx P X h) (n.val + d.val) : EReal)) :
    Host.divf (F := Ideal) (φ := .f32) (Host.reduceAdd (F := Ideal) (φ := .f32) (addf (Host.dotGeneral dot_S128x2048x5_S128x2048x5x16_S128x2048x16_2_2_n_3_01_01 none A N)
        (broadcastInDim S128x2048x16 ![0, 1, 2] h1 (broadcastInDim S1x1x16 ![2] h2 g))) (constant S_ .f32 0x00000000#32) (axes := [1]) (t := S128x16) h3 h4)
        (broadcastInDim S128x16 ![] h5 (constant S_ .f32 0x45000000#32)) (ix2 b h)
      = (gat P X h : EReal) * Ideal.ofBits .f32 0x3A000000#32 + g (ix1 h) := by
  have hf : ∀ n : Fin 2048, Host.dotGeneral dot_S128x2048x5_S128x2048x5x16_S128x2048x16_2_2_n_3_01_01 none A N (ix3 b n h)
      = ((∑ d : Fin 5, alpha P X n.val d.val * pad2 2048 (wx P X h) (n.val + d.val) : ℝ) : EReal) := by
    intro n
    refine (features_apply A N b n h).trans ?_
    refine Eq.trans (Finset.sum_congr rfl fun d _ => ?_) (coe_sum _ _).symm
    exact (congrArg₂ (· * ·) (hA n d) (hN n d)).trans (EReal.coe_mul _ _).symm
  refine (mean_apply _ _ b h).trans ?_
  refine (congrArg₂ Ideal.div ((colsum_apply _ _ _ b h).trans (Finset.sum_congr rfl fun n _ => (bias_apply _ _ _ _ b n h).trans (congrArg (· + g (ix1 h)) (hf n)))) two_pow_val.1).trans ?_
  refine (mean_shift _ _).trans ?_
  rw [two_pow_val.2.1]
  rfl

section
variable {V0 : Valuation τ sig (Elt Ideal)} (hA : (args V0).Finite)
include hA

theorem den_val (b : Fin 128) (n : Fin 2048) (h3 h4) :
    (Host.reduceAdd (F := Ideal) (φ := .f32) (res_main_v152 V0) (constant S_ .f32 0x00000000#32) (axes := [2]) (t := S128x2048) h3 h4) (ix2 b n) = (den (args V0).par ((args V0).sig b) n.val : EReal) := by
  refine (rowsum_apply (res_main_v152 V0) h3 h4 b n).trans ?_
  refine Eq.trans ?_ (coe_sum _ _).symm
  exact Finset.sum_congr rfl fun d _ => v152_val hA b n d

theorem alpha_val (b : Fin 128) (n : Fin 2048) (d : Fin 5) (h1 h2 h3 h4) :
    Host.divf (F := Ideal) (φ := .f32) (res_main_v152 V0) (broadcastInDim S128x2048x5 ![0, 1, 2] h1 (broadcastInDim S128x2048x1 ![0, 1] h2 (Host.reduceAdd (F := Ideal) (φ := .f32) (res_main_v152 V0) (constant S_ .f32 0x00000000#32) (axes := [2]) (t := S128x2048) h3 h4))) (ix3 b n d)
      = (alpha (args V0).par ((args V0).sig b) n.val d.val : EReal) := by
  refine (quot_apply (res_main_v152 V0) _ h1 h2 b n d).trans ?_
  refine (congrArg₂ Ideal.div (v152_val hA b n d) (den_val hA b n h3 h4)).trans ?_
  exact div_coe _ _ (den_pos _ _ n.val n.isLt).ne'

/-- The reference's result on finite arguments: the mathematics of its arguments. -/
theorem out_val : (val4 V0 (Proc.devRef .tc main_v178) : FVec Ideal S128x2 .f32) = fun i => (args V0).out (i 0) (i 1) := by
  refine (val4_main_v178 V0).trans ?_
  refine funext fun i => ?_
  obtain ⟨b, q, rfl⟩ : ∃ b q, i = ix2 b q := ⟨i 0, i 1, by funext a; fin_cases a <;> rfl⟩
  refine (classes_apply _ _ _ _ _ _ b q).trans ?_
  unfold Args.out head
  refine congrArg₂ (· + ·) (Finset.sum_congr rfl fun k _ => congrArg₂ (· * ·) ?_ rfl) rfl
  refine (cat_apply _ _ _ b k).trans ?_
  refine dite_congr rfl (fun h => ?_) (fun h => ?_)
  · exact mean_val _ _ _ _ _ _ _ _ (args V0).par ((args V0).sig b) b ⟨k.val, h⟩ (fun n d => alpha_val hA b n d _ _ _ _)
      (fun n d => nbr_apply (res_main_v102 V0) (fun s => (pad2 2048 (wx (args V0).par ((args V0).sig b) ⟨k.val, h⟩) s : EReal)) b ⟨k.val, h⟩ (fun s => v102_val hA b s _) _ _ _ _ _ _ n d)
  · refine (freq_apply _ _ _ _ _ _ _ _ b _).trans ?_
    exact congrArg (fun f => freq f _ _ _) (funext fun j => bands_apply _ _ _ b j)
end

end Cert.ReferenceIdeal.Val

end
-- ==== Proof.Pre.lean ====
/-
The precondition decoded: what its masks say of the arguments, as real numbers.
-/
module

public import proofs.«01_k».proof.Defs
public import proofs.«01_k».proof.Proof.KValue
public import Idealize.ShloMosaic.PureOps.Ideal.Laws

@[expose] public section

noncomputable section

namespace Cert.Finite

open Idealize.ShloMosaic Cert.Gat

/-- The shape relations the precondition takes. -/
theorem facts : Cert.Pre_finite_inputs.Facts :=
  ⟨by decide, by decide, by decide, by decide, by decide, by decide, by decide⟩

theorem inf_val : Ideal.ofBits .f32 0x7F800000#32 = ⊤ := by
  simp [Ideal.ofBits, Ideal.ieee]

theorem zero_val : Ideal.ofBits .f32 0x00000000#32 = 0 := by
  simp [Ideal.ofBits, Ideal.ieee]

/-- The mask of the finite entries of an array. -/
abbrev finite {S : Shape} (h : (⟨0, ![]⟩ : Shape).BroadcastsInDim S (![] : Fin 0 → Fin S.rank)) (a : FVec Ideal S .f32) : IVec S 1 :=
  cmpf .olt (Host.absf a) (broadcastInDim S ![] h (constant ⟨0, ![]⟩ .f32 0x7F800000#32))

/-- The mask of the entries of an array that are above zero when the norm's constant is added. -/
abbrev positive {S : Shape} (h : (⟨0, ![]⟩ : Shape).BroadcastsInDim S (![] : Fin 0 → Fin S.rank)) (a : FVec Ideal S .f32) : IVec S 1 :=
  cmpf .ogt (addf a (broadcastInDim S ![] h (constant ⟨0, ![]⟩ .f32 0x3727C5AC#32))) (broadcastInDim S ![] h (constant ⟨0, ![]⟩ .f32 0x00000000#32))

theorem of_true {p : Prop} [Decidable p] (h : BitVec.ofBool (decide p) = 1#1) : p := by
  by_contra hp
  rw [decide_eq_false hp] at h
  exact absurd h (by decide)

theorem real_of_lt {v : EReal} (h : max v (-v) < ⊤) : v = (v.toReal : EReal) := by
  induction v with
  | bot => simp at h
  | top => simp at h
  | coe r => rfl

/-- An array whose entries are all finite holds real numbers. -/
theorem isReal_of {S : Shape} {h} {a : FVec Ideal S .f32} (e : finite h a = fun _ => 1#1) : IsReal a := fun i => by
  have k : BitVec.ofBool (decide (max (a i) (-(a i)) < Ideal.ofBits .f32 0x7F800000#32)) = 1#1 := congrFun e i
  have k := of_true k
  rw [inf_val] at k
  exact real_of_lt k

theorem pos_of {S : Shape} {h} {a : FVec Ideal S .f32} (e : positive h a = fun _ => 1#1) (i : S.Idx) : 0 < a i + Ideal.ofBits .f32 0x3727C5AC#32 := by
  have k : BitVec.ofBool (decide (Ideal.ofBits .f32 0x00000000#32 < a i + Ideal.ofBits .f32 0x3727C5AC#32)) = 1#1 := congrFun e i
  have k := of_true k
  rwa [zero_val] at k

/-- The precondition gives the finiteness the value proofs use. -/
theorem finite_of_pre [Cert.Pre_finite_inputs.Facts] (m : (ℓ : Loc Cert.KernelIdeal.nD Cert.KernelIdeal.τ Cert.KernelIdeal.sig) → Buf (Elt Ideal) ℓ)
    (h : Cert.Pre_KernelIdeal_finite_inputs m) (c : Dev Cert.KernelIdeal.nD) : (Cert.KernelIdeal.Val.args m c).Finite := by
  obtain ⟨x, w1, b1, g1, e1, m1, v1, w2, b2, g2, e2, m2, v2, gw, src, dst⟩ := h c
  exact
    { x := isReal_of x, w1 := isReal_of w1, b1 := isReal_of b1, g1 := isReal_of g1, e1 := isReal_of e1, m1 := isReal_of m1
      v1_pos := pos_of v1
      w2 := isReal_of w2, b2 := isReal_of b2, g2 := isReal_of g2, e2 := isReal_of e2, m2 := isReal_of m2
      v2_pos := pos_of v2
      gw := isReal_of gw, src := isReal_of src, dst := isReal_of dst }

end Cert.Finite

end
-- ==== Proof.lean ====
/-
The claims of this directory, assembled from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KValue
public import proofs.«01_k».proof.Proof.RValue
public import proofs.«01_k».proof.Proof.Pre
public import Idealize.ShloMosaic.Adequacy
public import Idealize.ShloMosaic.Init

@[expose] public section

noncomputable section

namespace Cert.Proof

open Idealize.ShloMosaic Idealize.SL.Sem
open Idealize.ShloMosaic.StableHlo

/-- The reference terminates, keeps its arguments, and leaves every semaphore counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The named mask constant is what the table says. -/
theorem mask_named : Cert.preserves_Kernel_KernelIdeal :=
  IdealRules.named_const.statement Cert.KernelIdeal.κ "mask" .f32 0xCE6E6B28#32 ⊥ rfl

/-- The kernel over extended reals, on finite arguments: it returns the mathematics of its arguments and keeps them. -/
theorem kernel_run (m : (ℓ : Loc Cert.KernelIdeal.nD Cert.KernelIdeal.τ Cert.KernelIdeal.sig) → Buf (Elt Ideal) ℓ) (g : Dev Cert.KernelIdeal.nD → PrngReg)
    (hA : ∀ c, (Cert.KernelIdeal.Val.args m c).Finite) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      ((r.2.mem ((c.tc : Thread Cert.KernelIdeal.nD Cert.KernelIdeal.τ).loc Cert.KernelIdeal.main_v0) : FVec Ideal Cert.KernelIdeal.S128x2 .f32) = fun i => (Cert.KernelIdeal.Val.args m c).out (i 0) (i 1))
      ∧ ∀ b ∈ Cert.KernelIdeal.Gen.argRefs, r.2.mem ((c.tc : Thread Cert.KernelIdeal.nD Cert.KernelIdeal.τ).loc b) = m ((c.tc : Thread Cert.KernelIdeal.nD Cert.KernelIdeal.τ).loc b)) :=
  (θ_run Cert.KernelIdeal.defs _ _).mono
    (fun r h c => ⟨Cert.KernelIdeal.Val.result_val m c (hA c) r h, Cert.KernelIdeal.Gen.frame_of m (Cert.KernelIdeal.Gen.dats m) h c⟩)
    (Cert.KernelIdeal.Gen.run_main m g)

/-- On finite arguments the kernel and the reference compute one function over the extended reals. -/
theorem same_function : Cert.algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m g m' g' hP hE
  have hA := fun c => @Cert.Finite.finite_of_pre Cert.Finite.facts m hP c
  have same : ∀ c, Cert.ReferenceIdeal.Val.args (launchContents m' c) = Cert.KernelIdeal.Val.args m c := by
    intro c
    obtain ⟨e0, e1, e2, e3, e4, e5, e6, e7, e8, e9, e10, e11, e12, e13, e14, e15, e16, e17, e18, e19, e20, e21, e22⟩ := hE c
    unfold Cert.ReferenceIdeal.Val.args Cert.KernelIdeal.Val.args
    congr 1
  refine ⟨fun c => (fun i => (Cert.KernelIdeal.Val.args m c).out (i 0) (i 1) : FVec Ideal Cert.KernelIdeal.S128x2 .f32), ?_, ?_⟩
  · refine (θ_run Cert.KernelIdeal.defs _ _).mono (fun r h c => ⟨(h c).1, ?_⟩) (kernel_run m g hA)
    have k := (h c).2
    refine ⟨?_, ?_, ?_, ?_, ?_, ?_, ?_, ?_, ?_, ?_, ?_, ?_, ?_, ?_, ?_, ?_, ?_, ?_, ?_, ?_, ?_, ?_, ?_⟩ <;>
      exact k _ (by decide)
  · refine (θ_run Cert.ReferenceIdeal.defs _ _).mono (fun r h c => ⟨?_, (h c).2⟩) (Cert.ReferenceIdeal.Value.run (F := Ideal) m' g')
    refine (h c).1.trans ((Cert.ReferenceIdeal.Value.val4_main_v178 (launchContents m' c)).symm.trans ?_)
    refine (Cert.ReferenceIdeal.Val.out_val ((same c).symm ▸ hA c)).trans ?_
    rw [same c]
    rfl

theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, mask_named, same_function⟩

end Cert.Proof

end
